-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![1024, 512]⟩ ⟨2, ![1024, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)

variable [Facts]

def fn {F : FTy → Type} [FloatOps F] (main_arg0 : FVec F S1024x512 .f32) (main_arg1 : FVec F S512 .f32) (main_arg2 : FVec F S512 .f32) : IVec S1024x512 1 :=
  let main_cst : FVec F S_ .f32 := constant S_ .f32 0x7F800000#32
  let main_v0 : FVec F S1024x512 .f32 := broadcastInDim S1024x512 ![] bcast_S_S1024x512 main_cst
  let main_v1 : IVec S1024x512 1 := cmpf .olt main_arg0 main_v0
  let main_cst_0 : FVec F S_ .f32 := constant S_ .f32 0xFF800000#32
  let main_v2 : FVec F S1024x512 .f32 := broadcastInDim S1024x512 ![] bcast_S_S1024x512 main_cst_0
  let main_v3 : IVec S1024x512 1 := cmpf .ogt main_arg0 main_v2
  let main_v4 : IVec S1024x512 1 := andi main_v1 main_v3
  main_v4
-- ==== Pre_finite_x_ReferenceIdeal.lean ====
abbrev S1024x4096 : Shape := ⟨2, ![1024, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)

variable [Facts]

def fn {F : FTy → Type} [FloatOps F] (main_arg0 : FVec F S1024x4096 .f32) (main_arg1 : FVec F S4096 .f32) (main_arg2 : FVec F S4096 .f32) : IVec S1024x4096 1 :=
  let main_cst : FVec F S_ .f32 := constant S_ .f32 0x7F800000#32
  let main_v0 : FVec F S1024x4096 .f32 := broadcastInDim S1024x4096 ![] bcast_S_S1024x4096 main_cst
  let main_v1 : IVec S1024x4096 1 := cmpf .olt main_arg0 main_v0
  let main_cst_0 : FVec F S_ .f32 := constant S_ .f32 0xFF800000#32
  let main_v2 : FVec F S1024x4096 .f32 := broadcastInDim S1024x4096 ![] bcast_S_S1024x4096 main_cst_0
  let main_v3 : IVec S1024x4096 1 := cmpf .ogt main_arg0 main_v2
  let main_v4 : IVec S1024x4096 1 := andi main_v1 main_v3
  main_v4
-- ==== Kernel.lean ====
abbrev S1024x512 : Shape := ⟨2, ![1024, 512]⟩
abbrev S512 : Shape := ⟨1, ![512]⟩
abbrev S1x512 : Shape := ⟨2, ![1, 512]⟩
abbrev S8x16x128 : Shape := ⟨3, ![8, 16, 128]⟩
abbrev S4 : Shape := ⟨1, ![4]⟩
abbrev S8 : Shape := ⟨1, ![8]⟩
abbrev S_ : Shape := ⟨0, ![]⟩
abbrev S1 : Shape := ⟨1, ![1]⟩
abbrev S256x512 : Shape := ⟨2, ![256, 512]⟩
abbrev S256 : Shape := ⟨1, ![256]⟩
abbrev S2x128 : Shape := ⟨2, ![2, 128]⟩
abbrev S1x2x128 : Shape := ⟨3, ![1, 2, 128]⟩
abbrev S1x16x128 : Shape := ⟨3, ![1, 16, 128]⟩
abbrev S16x128 : Shape := ⟨2, ![16, 128]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S1024x512, .f32⟩
  | .local _ .vmem, ⟨0, _⟩ => ⟨S1x512, .f32⟩
  | .local _ .vmem, ⟨1, _⟩ => ⟨S1x512, .f32⟩
  | .local _ .vmem, ⟨2, _⟩ => ⟨S1024x512, .f32⟩
  | .local _ .vmem, ⟨3, _⟩ => ⟨S1024x512, .f32⟩
  | .local _ .vmem, ⟨4, _⟩ => ⟨S8x16x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_94 : BitVec 32 := 1#32
  let v112 : BitVec 32 := Scalar.addi v2 c1_i32_94
  let c8_i32_95 : BitVec 32 := 8#32
  let v113 : BitVec 32 := Scalar.remsi v112 c8_i32_95
  let c1_i32_100 : BitVec 32 := 1#32
  let v114 : BitVec 32 := Scalar.muli v113 c1_i32_100
  let v115 : BitVec 32 := Scalar.addi c0_i32_101 v114
  v115.toNat
def k0_dev9 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_106 : BitVec 32 := 2#32
  let v124 : BitVec 32 := Scalar.addi v2 c2_i32_106
  let c8_i32_107 : BitVec 32 := 8#32
  let v125 : BitVec 32 := Scalar.remsi v124 c8_i32_107
  let c1_i32_112 : BitVec 32 := 1#32
  let v126 : BitVec 32 := Scalar.muli v125 c1_i32_112
  let v127 : BitVec 32 := Scalar.addi c0_i32_113 v126
  v127.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_118 : BitVec 32 := 3#32
  let v136 : BitVec 32 := Scalar.addi v2 c3_i32_118
  let c8_i32_119 : BitVec 32 := 8#32
  let v137 : BitVec 32 := Scalar.remsi v136 c8_i32_119
  let c1_i32_124 : BitVec 32 := 1#32
  let v138 : BitVec 32 := Scalar.muli v137 c1_i32_124
  let v139 : BitVec 32 := Scalar.addi c0_i32_125 v138
  v139.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v148 : BitVec 32 := Scalar.addi v2 c4_i32_130
  let c8_i32_131 : BitVec 32 := 8#32
  let v149 : BitVec 32 := Scalar.remsi v148 c8_i32_131
  let c1_i32_136 : BitVec 32 := 1#32
  let v150 : BitVec 32 := Scalar.muli v149 c1_i32_136
  let v151 : BitVec 32 := Scalar.addi c0_i32_137 v150
  v151.toNat
def k0_dev12 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_142 : BitVec 32 := 5#32
  let v160 : BitVec 32 := Scalar.addi v2 c5_i32_142
  let c8_i32_143 : BitVec 32 := 8#32
  let v161 : BitVec 32 := Scalar.remsi v160 c8_i32_143
  let c1_i32_148 : BitVec 32 := 1#32
  let v162 : BitVec 32 := Scalar.muli v161 c1_i32_148
  let v163 : BitVec 32 := Scalar.addi c0_i32_149 v162
  v163.toNat
def k0_dev13 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_154 : BitVec 32 := 6#32
  let v172 : BitVec 32 := Scalar.addi v2 c6_i32_154
  let c8_i32_155 : BitVec 32 := 8#32
  let v173 : BitVec 32 := Scalar.remsi v172 c8_i32_155
  let c1_i32_160 : BitVec 32 := 1#32
  let v174 : BitVec 32 := Scalar.muli v173 c1_i32_160
  let v175 : BitVec 32 := Scalar.addi c0_i32_161 v174
  v175.toNat
def k0_dev14 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_166 : BitVec 32 := 7#32
  let v184 : BitVec 32 := Scalar.addi v2 c7_i32_166
  let c8_i32_167 : BitVec 32 := 8#32
  let v185 : BitVec 32 := Scalar.remsi v184 c8_i32_167
  let c1_i32_172 : BitVec 32 := 1#32
  let v186 : BitVec 32 := Scalar.muli v185 c1_i32_172
  let v187 : BitVec 32 := Scalar.addi c0_i32_173 v186
  v187.toNat
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x4096 : Shape := ⟨2, ![1024, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x4096, .f32⟩
  | .hbm, ⟨34, _⟩ => ⟨S1024x4096, .f32⟩
  | .hbm, ⟨35, _⟩ => ⟨S1x4096, .f32⟩
  | .hbm, ⟨36, _⟩ => ⟨S1024x4096, .f32⟩
  | .hbm, ⟨37, _⟩ => ⟨S1024x4096, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S1024x4096, .f32⟩
  | .hbm, ⟨43, _⟩ => ⟨S1024x4096, .f32⟩
  | .hbm, ⟨44, _⟩ => ⟨S1x4096, .f32⟩
  | .hbm, ⟨45, _⟩ => ⟨S1024x4096, .f32⟩
  | .hbm, ⟨46, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Protocol.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Ring

/-!
# The all-to-all protocol

Eight devices exchange their row statistics. Device `c` keeps its own statistics in slot 0 of its communication buffer and
copies them into slot `j + 1` of the device `j + 1` places ahead, for `j = 0, …, 6`. Before the copies every device signals
the seven others once on their barrier semaphore and waits for seven signals.

* The barrier cell of `r` has one round with seven duties. Duty `j` is paid by the device `j + 1` places ahead of `r`: it
  hands over its own slot `j + 1`, into which `r` will copy.
* The receive cell `j` of `q` has one duty, paid by the landing of the copy from the device `j + 1` places behind: it hands
  slot `j + 1` back, at that device's statistics.
* The send cell `j` of `q` has one duty, paid when the copy has been read: it hands back a share of slot 0.

The statistics are a parameter `st` here: `st c` is what device `c` has in slot 0.
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal

variable {F : FTy → Type} [FloatOps F]

/-! ## Devices -/

/-- The device `j + 1` places ahead of `c`. -/
def fwd (c : Dev nD) (j : Fin 7) : Dev nD := ⟨(c.val + j.val + 1) % 8, Nat.mod_lt _ (by decide)⟩
/-- The device `n` places behind `c`: the one whose statistics slot `n` of `c` holds in the end. -/
def back (c : Dev nD) (n : ℕ) : Dev nD := ⟨(c.val + (8 - n % 8)) % 8, Nat.mod_lt _ (by decide)⟩

theorem fwd_rev (c : Dev nD) (j : Fin 7) : fwd (fwd c j) j.rev = c := by revert c j; decide
theorem back_fwd (c : Dev nD) (j : Fin 7) : back (fwd c j) (j.val + 1) = c := by revert c j; decide
theorem back_zero (c : Dev nD) : back c 0 = c := by revert c; decide
theorem fwd_inj (c c' : Dev nD) (j : Fin 7) (h : fwd c j = fwd c' j) : c = c' := by
  rw [← back_fwd c j, h, back_fwd]

/-! ## The slots and the semaphores, as the kernel writes them -/

theorem slot_inb {n : ℕ} (h : n < 8) : ∀ a, (![n, 0, 0] : Fin 3 → Nat) a + S1x16x128.size a ≤ S8x16x128.size a := by
  intro a; fin_cases a
  · show n + 1 ≤ 8; omega
  · show 0 + 16 ≤ 16; omega
  · show 0 + 128 ≤ 128; omega
theorem sem_inb {n : ℕ} (h : n < 8) : ∀ a, (![n] : Fin 1 → Nat) a + S1.size a ≤ S8.size a := by
  intro a; fin_cases a; show n + 1 ≤ 8; omega

abbrev cM : Memref sig .tc .vmem S8x16x128 .f32 := Memref.whole cc0_scratch2

/-- Slot `n` of the communication buffer. -/
abbrev slotM (n : ℕ) (h : n < 8) : Memref sig .tc .vmem S16x128 .f32 :=
  (cM.slice (Rect.unit (s := S8x16x128) ![n, 0, 0] S1x16x128.size (slot_inb h)) (fun _ => rfl)).squeeze S16x128
    Facts₀.squeezes_S1x16x128_S16x128

abbrev semAt (a : DmaSems sig S8) (n : ℕ) (h : n < 8) : DmaSem sig :=
  ((a.slice (Rect.unit (s := S8) ![n] S1.size (sem_inb h))).squeeze S_ Facts₀.squeezes_S1_S_).sem

abbrev sendS (n : ℕ) (h : n < 8) : DmaSem sig := semAt cc0_scratch5 n h
abbrev recvS (n : ℕ) (h : n < 8) : DmaSem sig := semAt cc0_scratch6 n h

theorem zlt : 0 < 8 := by decide
theorem jlt (j : Fin 7) : j.val + 1 < 8 := by omega

abbrev sendJ (j : Fin 7) : DmaSem sig := sendS (j.val + 1) (jlt j)
abbrev recvJ (j : Fin 7) : DmaSem sig := recvS (j.val + 1) (jlt j)
abbrev slotJ (j : Fin 7) : Memref sig .tc .vmem S16x128 .f32 := slotM (j.val + 1) (jlt j)

theorem sendJ_val (j : Fin 7) : (sendJ j).val = 11 + j.val := by revert j; decide
theorem recvJ_val (j : Fin 7) : (recvJ j).val = 19 + j.val := by revert j; decide

/-- The row-column index `y` of slot `n`, in the whole buffer. -/
def slotIdx (n : ℕ) (h : n < 8) (y : S16x128.Idx) : S8x16x128.Idx := Fin.cons (⟨n, h⟩ : Fin 8) y

theorem slot_emb (n : ℕ) (h : n < 8) (y : S16x128.Idx) : (slotM n h).view.emb y = slotIdx n h y := by
  show (Rect.unit (s := S8x16x128) ![n, 0, 0] S1x16x128.size (slot_inb h)).emb (Shape.reshapeEquiv _ y) = _
  rw [show Shape.reshapeEquiv (s := S1x16x128) (s' := S16x128) _ y = (Fin.cons (⟨0, Nat.one_pos⟩ : Fin 1) y : S1x16x128.Idx) from
    Shape.reshapeEquiv_cons_one _ y]
  funext a
  apply Fin.ext
  fin_cases a
  · show n + 1 * 0 = n; omega
  · show 0 + 1 * (y 0).val = (y 0).val; omega
  · show 0 + 1 * (y 1).val = (y 1).val; omega

/-- An index of the whole buffer, the slot number dropped. -/
def tailIdx (i : S8x16x128.Idx) : S16x128.Idx := fun a => i a.succ

theorem slotIdx_tail (i : S8x16x128.Idx) (n : ℕ) (h : n < 8) (hi : (i 0).val = n) : slotIdx n h (tailIdx i) = i := by
  funext a
  refine Fin.cases ?_ (fun b => rfl) a
  exact Fin.ext hi.symm

theorem mem_slot (n : ℕ) (h : n < 8) (i : S8x16x128.Idx) : i ∈ (slotM n h).view.set ↔ (i 0).val = n := by
  constructor
  · intro hi
    obtain ⟨y, -, rfl⟩ := Finset.mem_map.mp hi
    rw [slot_emb]; rfl
  · intro hi
    refine Finset.mem_map.mpr ⟨tailIdx i, Finset.mem_univ _, ?_⟩
    rw [slot_emb]; exact slotIdx_tail i n h hi

/-! ## The resource algebra -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance : (ER (F := F)).LandsIn (upEmb : UEmb _ 𝕄) := by unfold ER; infer_instance

/-! ## Cells -/

abbrev barS : Sem sig := (SemArray.scalar (sig.barrier 0 rfl) : Sems sig S_).sem
abbrev barCell (c : Dev nD) : GSem nD τ sig := ((c : Thread nD τ), .reg barS)
abbrev sendCell (c : Dev nD) (j : Fin 7) : GSem nD τ sig := ((c : Thread nD τ), .dma (sendJ j))
abbrev recvCell (c : Dev nD) (j : Fin 7) : GSem nD τ sig := ((c : Thread nD τ), .dma (recvJ j))

/-- What part a semaphore plays in the exchange. -/
inductive Role where
  | bar | send (j : Fin 7) | recv (j : Fin 7) | other

def role : SemLoc sig → Role
  | .reg _ => .bar
  | .dma k => if h : 11 ≤ k.val ∧ k.val < 18 then .send ⟨k.val - 11, by omega⟩
    else if h : 19 ≤ k.val ∧ k.val < 26 then .recv ⟨k.val - 19, by omega⟩ else .other

theorem role_send (j : Fin 7) : role (.dma (sendJ j)) = .send j := by
  show dite _ _ _ = _
  have hv := sendJ_val j
  rw [dif_pos ⟨by omega, by omega⟩]
  congr 1; apply Fin.ext; show (sendJ j).val - 11 = _; omega
theorem role_recv (j : Fin 7) : role (.dma (recvJ j)) = .recv j := by
  show dite _ _ _ = _
  have hv := recvJ_val j
  rw [dif_neg (by omega), dif_pos ⟨by omega, by omega⟩]
  congr 1; apply Fin.ext; show (recvJ j).val - 19 = _; omega
theorem role_bar : role (.reg barS) = .bar := rfl

/-! ## Contents -/

/-- The contents of device `c`'s buffer when every slot holds the statistics of the device that many places behind. -/
def commOf (st : Dev nD → S16x128.Idx → Elt F .f32) (c : Dev nD) : cM.view.ty.Contents (Elt F) :=
  fun i => st (back c (i 0).val) (tailIdx i)

abbrev N : ℕ := (slotM 0 zlt).view.dmaCredit
theorem N_pos : 0 < N := View.dmaCredit_pos _ (by decide)

/-- Slot `n` of device `c` at contents `f`. -/
abbrev slotPts (c : Dev nD) (n : ℕ) (h : n < 8) (q : PosShare TreeShare) (f : cM.view.ty.Contents (Elt F)) : sProp 𝕄 :=
  (slotM n h).view.loc (c : Thread nD τ) ↦[(slotM n h).view.set]{q} f

variable (st : Dev nD → S16x128.Idx → Elt F .f32)

theorem comm_slotIdx (c : Dev nD) (n : ℕ) (h : n < 8) (y : S16x128.Idx) : commOf st c (slotIdx n h y) = st (back c n) y := rfl

/-- The whole buffer at `fd`, slot `n` overwritten by `w`. -/
def putSlot (n : ℕ) (h : n < 8) (fd : cM.view.ty.Contents (Elt F)) (w : S16x128.Idx → Elt F .f32) : cM.view.ty.Contents (Elt F) :=
  (slotM n h).view.write (Elt F) fd w Finset.univ
/-- Slot `n` of the whole buffer at `fd`. -/
def getSlot (n : ℕ) (h : n < 8) (fd : cM.view.ty.Contents (Elt F)) : S16x128.Idx → Elt F .f32 := (slotM n h).view.read (Elt F) fd

theorem putSlot_apply (n : ℕ) (h : n < 8) (fd : cM.view.ty.Contents (Elt F)) (w : S16x128.Idx → Elt F .f32) (y : S16x128.Idx) :
    putSlot n h fd w (slotIdx n h y) = w y := by
  unfold putSlot
  rw [← slot_emb]
  exact View.write_emb_of_mem _ _ (Finset.mem_univ y)
theorem getSlot_apply (n : ℕ) (h : n < 8) (fd : cM.view.ty.Contents (Elt F)) (y : S16x128.Idx) :
    getSlot n h fd y = fd (slotIdx n h y) := by
  rw [← slot_emb]
  rfl

/-- Contents that agree on slot `n` are the same there. -/
theorem slotPts_congr (c : Dev nD) (n : ℕ) (h : n < 8) (q : PosShare TreeShare) (f g : cM.view.ty.Contents (Elt F))
    (hfg : ∀ y, f (slotIdx n h y) = g (slotIdx n h y)) : (slotPts c n h q f : sProp 𝕄) = slotPts c n h q g := by
  refine pointsTo_congr (fun i hi => ?_)
  rw [← slotIdx_tail i n h ((mem_slot n h i).mp hi)]
  exact hfg _

/-- A copy of slot 0 of `c` into slot `j + 1` of the device `j + 1` places ahead leaves there what `commOf` says. -/
theorem landed (c : Dev nD) (j : Fin 7) (fd : cM.view.ty.Contents (Elt F)) :
    (slotPts (fwd c j) (j.val + 1) (jlt j) fullShare (putSlot (j.val + 1) (jlt j) fd (getSlot 0 zlt (commOf st c))) : sProp 𝕄)
      = slotPts (fwd c j) (j.val + 1) (jlt j) fullShare (commOf st (fwd c j)) := by
  refine slotPts_congr _ _ _ _ _ _ fun y => ?_
  rw [putSlot_apply, getSlot_apply, comm_slotIdx, comm_slotIdx, back_fwd, back_zero]

/-! ## The schedule -/

/-- Duty `j` of `r`'s barrier cell: the slot `r`'s copy `j` goes to, and that its receive cell is ready. -/
def barPay (r : Dev nD) (j : Fin 7) : sProp 𝕄 :=
  iprop((∃ f, slotPts (fwd r j) (j.val + 1) (jlt j) fullShare f) ∗ reached ER (recvCell (fwd r j) j) 0)
/-- What a landed copy hands over: slot `j + 1` at the sender's statistics. -/
def recvPay (c : Dev nD) (j : Fin 7) : sProp 𝕄 := slotPts c (j.val + 1) (jlt j) fullShare (commOf st c)
/-- What a copy that has been read hands back: one share of slot 0. -/
def sendPay (c : Dev nD) (j : Fin 7) : sProp 𝕄 := slotPts c 0 zlt (Transfers.shareTok fullShare 7 j) (commOf st c)

def rolePay (c : Dev nD) (d : Fin 7) : Role → sProp 𝕄
  | .bar => barPay c d
  | .send j => sendPay st c j
  | .recv j => recvPay st c j
  | .other => iprop(emp)

def roleDuties : Role → Finset (Fin 7)
  | .bar => Finset.univ
  | .send _ => {0}
  | .recv _ => {0}
  | .other => ∅

def roleAmount : Role → ℕ
  | .bar => 1
  | _ => N

def Rd : Schedule (GSem nD τ sig) (Fin 7) 𝕄 where
  duties g r := if r = 0 ∧ g.1.2 = .tc then roleDuties (role g.2) else ∅
  unitless _ := False
  amount g _ _ := roleAmount (role g.2)
  payload g _ d := rolePay st g.1.1 d (role g.2)
  amount_pos g _ _ _ := by
    cases role g.2 <;> first | exact Nat.one_pos | exact N_pos

instance Rd_storable (g : GSem nD τ sig) (r : ℕ) (d : Fin 7) : BI.Storable (upEmb : UEmb _ 𝕄) ((Rd st).payload g r d) := by
  show BI.Storable upEmb (rolePay st g.1.1 d (role g.2))
  cases role g.2 <;> (unfold rolePay barPay sendPay recvPay <;> infer_instance)

section Tables
variable (c : Dev nD) (j : Fin 7)

theorem duties_bar : (Rd st).duties (barCell c) 0 = Finset.univ := by
  dsimp only [Rd]; rw [if_pos ⟨rfl, rfl⟩]; rfl
theorem duties_send : (Rd st).duties (sendCell c j) 0 = {0} := by
  dsimp only [Rd]; rw [if_pos ⟨rfl, rfl⟩, role_send]; rfl
theorem duties_recv : (Rd st).duties (recvCell c j) 0 = {0} := by
  dsimp only [Rd]; rw [if_pos ⟨rfl, rfl⟩, role_recv]; rfl
theorem duties_later (g : GSem nD τ sig) : ∀ r, 1 ≤ r → (Rd st).duties g r = ∅ :=
  fun r hr => by dsimp only [Rd]; rw [if_neg (fun h => by omega)]

theorem amount_bar (d : Fin 7) : (Rd st).amount (barCell c) 0 d = 1 := rfl
theorem amount_send (d : Fin 7) : (Rd st).amount (sendCell c j) 0 d = N := by dsimp only [Rd]; rw [role_send]; rfl
theorem amount_recv (d : Fin 7) : (Rd st).amount (recvCell c j) 0 d = N := by dsimp only [Rd]; rw [role_recv]; rfl

theorem payload_bar (d : Fin 7) : (Rd st).payload (barCell c) 0 d = barPay c d := rfl
theorem payload_send (d : Fin 7) : (Rd st).payload (sendCell c j) 0 d = sendPay st c j := by dsimp only [Rd]; rw [role_send]; rfl
theorem payload_recv (d : Fin 7) : (Rd st).payload (recvCell c j) 0 d = recvPay st c j := by dsimp only [Rd]; rw [role_recv]; rfl

theorem expect_bar : (Rd st).expect (barCell c) 0 = 7 := by
  unfold Schedule.expect Schedule.amountOf; rw [duties_bar]; rfl
theorem expect_send : (Rd st).expect (sendCell c j) 0 = N := by
  unfold Schedule.expect Schedule.amountOf; rw [duties_send, Finset.sum_singleton, amount_send]
theorem expect_recv : (Rd st).expect (recvCell c j) 0 = N := by
  unfold Schedule.expect Schedule.amountOf; rw [duties_recv, Finset.sum_singleton, amount_recv]

theorem rest_bar : bigSep ((Rd st).duties (barCell c) 0 \ ∅) (fun u => (Rd st).payload (barCell c) 0 u)
    = bigSep Finset.univ (fun d => (barPay c d : sProp 𝕄)) := by
  rw [Finset.sdiff_empty, duties_bar]; rfl
theorem rest_send : bigSep ((Rd st).duties (sendCell c j) 0 \ ∅) (fun u => (Rd st).payload (sendCell c j) 0 u) = sendPay st c j := by
  rw [Finset.sdiff_empty, duties_send, bigSep_singleton, payload_send]
theorem rest_recv : bigSep ((Rd st).duties (recvCell c j) 0 \ ∅) (fun u => (Rd st).payload (recvCell c j) 0 u) = recvPay st c j := by
  rw [Finset.sdiff_empty, duties_recv, bigSep_singleton, payload_recv]

end Tables

/-! ## What a device owes, and the levels -/

/-- The index of the copy made when `n + 1` copies remain. -/
abbrev nth (n : ℕ) : Fin 7 := ⟨6 - n, by omega⟩

/-- Owed with `n` copies still to make: the receive credits of the last `n`. -/
def dueSend (c : Dev nD) : ℕ → CellTallies nD τ sig Unit
  | 0 => 0
  | n + 1 => dueSend c n + tallyAt (recvCell (fwd c (nth n)) (nth n)) () N

/-- Owed with `n` signals still to give, before any copy. -/
def dueAll (c : Dev nD) : ℕ → CellTallies nD τ sig Unit
  | 0 => dueSend c 7
  | n + 1 => dueAll c n + tallyAt (barCell (fwd c (nth n))) () 1

def L (g : GSem nD τ sig) : Finset Unit := if g.1.2 = .tc then {()} else ∅

def roleLevel : Role → ℕ
  | .bar => 1
  | .recv _ => 2
  | _ => 0

/-- Barrier cells at 1, receive cells at 2, the rest at 0. -/
def lv (g : GSem nD τ sig) (_ : Unit) : ℕ := roleLevel (role g.2)

theorem L_of_ne (g : GSem nD τ sig) (h : g.1.2 ≠ .tc) : L g = ∅ := if_neg h
theorem L_tc (c : Dev nD) (sm : SemLoc sig) : L ((c : Thread nD τ), sm) = {()} := if_pos rfl

theorem dueSend_pos (c : Dev nD) (n : ℕ) (g : GSem nD τ sig) (u : Unit) (h : 0 < dueSend c n g u) : ∃ d j, g = recvCell d j := by
  induction n with
  | zero => exact absurd h (Nat.lt_irrefl 0)
  | succ n ih =>
    rw [dueSend, Pi.add_apply, Finsupp.add_apply, tallyAt_apply] at h
    by_cases hg : g = recvCell (fwd c (nth n)) (nth n) ∧ u = ()
    · exact ⟨_, _, hg.1⟩
    · rw [if_neg hg] at h; exact ih h

/-- While copies are owed a device may wait on any cell of its own that is below the receive cells. -/
theorem mayWait_low (c : Dev nD) (n : ℕ) (sm : SemLoc sig) (h : roleLevel (role sm) ≤ 1) :
    (levAts L lv : sProp 𝕄) ⊢ MayWait (c : Thread nD τ) sm () (dueSend c n) :=
  MayOwe.of_cut (L := L) (lev := lv) 1 (fun p hp => by rw [Finset.mem_singleton.mp hp, L_tc]; exact Finset.mem_singleton_self _)
    (fun g u hg => by
      obtain ⟨d, j, rfl⟩ := dueSend_pos c n g u hg
      rw [L_tc]; exact Finset.mem_singleton_self _)
    (fun p hp => by rw [Finset.mem_singleton.mp hp]; exact h)
    (fun g u hg => by
      obtain ⟨d, j, rfl⟩ := dueSend_pos c n g u hg
      show 1 < roleLevel (role _)
      rw [role_recv]; exact Nat.lt_succ_self 1)

abbrev 𝒱₀ : Variants := Variants.none

end Cert.KernelIdeal.Proto
end
-- ==== Proof.Steps.lean ====
module

public import proofs.«01_k».proof.Proof.Protocol

/-!
# The steps of the exchange

One rule per kind of step: a signal, the barrier wait, a remote copy, the wait for a copy to have been read, the wait for a copy
to have landed. Each takes the resources of the step bundled by the copy's index and gives back what the step leaves.
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal

variable {F : FTy → Type} [FloatOps F]

local notation "𝕄" => MT nD τ sig Unit (Elt F) ℕ UU ℕ

variable (st : Dev nD → S16x128.Idx → Elt F .f32) {α : Type}

/-! ## The persistent context -/

/-- Every cell of the exchange. -/
def isCell (g : GSem nD τ sig) : Prop := ∃ c : Dev nD, g = barCell c ∨ ∃ j, g = sendCell c j ∨ g = recvCell c j

/-- What every step may use: the invariants of all cells, that every barrier cell is ready, that the device's own send and
    receive cells are ready, and the levels. -/
def pctx (K : GSem nD τ sig → ℕ) (c : Dev nD) : sProp 𝕄 :=
  iprop((bigSep Finset.univ fun d => cellInv ER (Rd st) (K (barCell d)) (barCell d))
    ∗ (bigSep Finset.univ fun p : Dev nD × Fin 7 => cellInv ER (Rd st) (K (sendCell p.1 p.2)) (sendCell p.1 p.2))
    ∗ (bigSep Finset.univ fun p : Dev nD × Fin 7 => cellInv ER (Rd st) (K (recvCell p.1 p.2)) (recvCell p.1 p.2))
    ∗ (bigSep Finset.univ fun d => reached ER (barCell d) 0)
    ∗ (bigSep Finset.univ fun j => reached ER (sendCell c j) 0)
    ∗ (bigSep Finset.univ fun j => reached ER (recvCell c j) 0)
    ∗ levAts L lv)

instance pctx_persistent (K : GSem nD τ sig → ℕ) (c : Dev nD) : BI.Persistent (pctx st K c) := by unfold pctx; infer_instance

section Elims
theorem elim_univ {I : Type} [Fintype I] [DecidableEq I] (Φ : I → sProp 𝕄) (i : I) : bigSep Finset.univ Φ ⊢ Φ i :=
  bigSep_elim (Finset.mem_univ i)
variable (K : GSem nD τ sig → ℕ) (c : Dev nD)

theorem pctx_bar (d : Dev nD) : pctx st K c ⊢ cellInv ER (Rd st) (K (barCell d)) (barCell d) := by
  unfold pctx; iintro ⟨H, -⟩
  iapply (elim_univ (fun d => (cellInv ER (Rd st) (K (barCell d)) (barCell d) : sProp 𝕄)) d); iexact H
theorem pctx_send (d : Dev nD) (j : Fin 7) : pctx st K c ⊢ cellInv ER (Rd st) (K (sendCell d j)) (sendCell d j) := by
  unfold pctx; iintro ⟨-, H, -⟩
  iapply (elim_univ (fun p : Dev nD × Fin 7 => (cellInv ER (Rd st) (K (sendCell p.1 p.2)) (sendCell p.1 p.2) : sProp 𝕄)) (d, j))
  iexact H
theorem pctx_recv (d : Dev nD) (j : Fin 7) : pctx st K c ⊢ cellInv ER (Rd st) (K (recvCell d j)) (recvCell d j) := by
  unfold pctx; iintro ⟨-, -, H, -⟩
  iapply (elim_univ (fun p : Dev nD × Fin 7 => (cellInv ER (Rd st) (K (recvCell p.1 p.2)) (recvCell p.1 p.2) : sProp 𝕄)) (d, j))
  iexact H
theorem pctx_rbar (d : Dev nD) : pctx st K c ⊢ reached ER (barCell d) 0 := by
  unfold pctx; iintro ⟨-, -, -, H, -⟩
  iapply (elim_univ (fun d => (reached ER (barCell d) 0 : sProp 𝕄)) d); iexact H
theorem pctx_rsend (j : Fin 7) : pctx st K c ⊢ reached ER (sendCell c j) 0 := by
  unfold pctx; iintro ⟨-, -, -, -, H, -⟩
  iapply (elim_univ (fun j => (reached ER (sendCell c j) 0 : sProp 𝕄)) j); iexact H
theorem pctx_rrecv (j : Fin 7) : pctx st K c ⊢ reached ER (recvCell c j) 0 := by
  unfold pctx; iintro ⟨-, -, -, -, -, H, -⟩
  iapply (elim_univ (fun j => (reached ER (recvCell c j) 0 : sProp 𝕄)) j); iexact H
theorem pctx_lev : pctx st K c ⊢ levAts L lv := by
  unfold pctx; iintro ⟨-, -, -, -, -, -, H⟩; iexact H

end Elims

/-- A cell whose one round is over gives its counter back at zero. -/
theorem close (κ : ℕ) (g : GSem nD τ sig) :
    iprop(cellInv ER (Rd st) κ g ∗ atPos ER g (0 + 1) ∅ 0) ⊢ (|={Set.univ}=> semVal g 0 : sProp 𝕄) :=
  Rounds.cell_close ER (Rd st) (Set.mem_univ κ) id (duties_later st g)

/-- What a device owes, the semaphores it has waited on left open. -/
def owing (c : Dev nD) (O : CellTallies nD τ sig Unit) : sProp 𝕄 := iprop(∃ W, owes (c : Thread nD τ) O W)

/-! ## The signal -/

/-- For the signal to the device `j + 1` ahead: the token of the duty it pays there and the slot that device will copy into. -/
def sigRes (c : Dev nD) (j : Fin 7) : sProp 𝕄 :=
  iprop(dutyTok ER (barCell (fwd c j)) 0 j.rev ∗ ∃ f, slotPts c (j.rev.val + 1) (jlt j.rev) fullShare f)

theorem step_signal (K : GSem nD τ sig → ℕ) (c : Dev nD) (n : ℕ) {p : Dev nD} (hp : p = fwd c (nth n)) {k' : ℤ} (hk : k' = 1)
    {k : PUnit → Prog (TpuEff nD τ sig (Elt F) Λ₀ .tc) α} {Q : α → sProp 𝕄} :
    iprop(pctx st K c ∗ sigRes c (nth n) ∗ owing c (dueAll c (n + 1)))
      ⊢ iprop((owing c (dueAll c n) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (p : Thread nD τ) barS k') k) Q) := by
  subst hp hk
  unfold sigRes owing
  iintro ⟨#HP, ⟨Ht, %f, Hs⟩, %W, HO⟩ Hk
  iapply (Rounds.wp_signal 𝒱₀ ER (Rd st) (c : Thread nD τ) none (dst := (fwd c (nth n) : Thread nD τ)) (sem := barS) (r := 0)
      (d := (nth n).rev) (κ := K (barCell (fwd c (nth n)))) (by rw [duties_bar]; exact Finset.mem_univ _)
      (amount_bar st (fwd c (nth n)) _) () (dueAll c n) rfl) $$ [HO Ht Hs]
  · isplitr; · iapply (pctx_bar st K c); iexact HP
    isplitl [HO]; · iexact HO
    isplitl [Ht]; · iexact Ht
    isplitl [Hs]
    · rw [payload_bar]; unfold barPay; rw [fwd_rev]
      isplitl [Hs]; · iexists f; iexact Hs
      iapply (pctx_rrecv st K c); iexact HP
    · iapply (pctx_rbar st K c); iexact HP
  iintro HO
  iapply Hk
  iexists W; iexact HO

/-! ## The barrier wait -/

theorem step_barrier (K : GSem nD τ sig → ℕ) (c : Dev nD) {k' : ℤ} (hk : k' = 7)
    {k : PUnit → Prog (TpuEff nD τ sig (Elt F) Λ₀ .tc) α} {Q : α → sProp 𝕄} :
    iprop(pctx st K c ∗ cred (tallyAt (barCell c) () 7) ∗ atPos ER (barCell c) 0 ∅ 0 ∗ owing c (dueAll c 0))
      ⊢ iprop(((semVal (barCell c) 0 ∗ (bigSep Finset.univ fun j => barPay c j) ∗ owing c (dueSend c 7))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk
  unfold owing
  iintro ⟨#HP, Hc, Hat, %W, HO⟩ Hk
  iapply (Rounds.wp_wait_rest_token 𝒱₀ ER (Rd st) (c : Thread nD τ) none (κ := K (barCell c))
      (wpE_semWait_eq 𝒱₀ (c : Thread nD τ) none Set.univ) (Set.mem_univ _) () (O := dueSend c 7) (W := W) (R := 0) (m := 0) (T := ∅)
      ((Nat.zero_add 7).trans (expect_bar st c).symm)) $$ [Hc HO Hat]
  · isplitr; · iapply (pctx_bar st K c); iexact HP
    isplitl [Hc]; · iexact Hc
    isplitl [HO]; · iexact HO
    isplitr; · iapply (mayWait_low c 7 (.reg barS) (Nat.le_refl 1)); iapply (pctx_lev st K c); iexact HP
    iexact Hat
  iintro ⟨HO, Hat, -, Hpay⟩
  ihave Hp := (Entails.of_eq (rest_bar st c)) $$ Hpay
  imod (close st (K (barCell c)) (barCell c)) $$ [Hat] with Hb0
  · isplitr; · iapply (pctx_bar st K c); iexact HP
    iexact Hat
  iapply Hk
  isplitl [Hb0]; · iexact Hb0
  isplitl [Hp]; · iexact Hp
  iexists _; iexact HO

/-! ## A copy -/

/-- For copy `j`: the tokens of its two duties, its share of slot 0, and what the barrier handed over. -/
def sendRes (c : Dev nD) (j : Fin 7) : sProp 𝕄 :=
  iprop(dutyTok ER (sendCell c j) 0 0 ∗ dutyTok ER (recvCell (fwd c j) j) 0 0 ∗ sendPay st c j ∗ barPay c j)

theorem step_send (K : GSem nD τ sig → ℕ) (c : Dev nD) (n : ℕ) {p : Dev nD} (hp : p = fwd c (nth n))
    {hsc : (slotJ (nth n)).view.ref.isScScratch = false}
    {hsrc : (slotM 0 zlt).view.WordExact} {hdst : (slotJ (nth n)).view.WordExact}
    {hsem : DmaTarget.Typed .vmem (.dma (recvJ (nth n))) (.remote (p : Thread nD τ) (slotJ (nth n)) (.dma (sendJ (nth n))) hsc)}
    {k : PUnit → Prog (TpuEff nD τ sig (Elt F) Λ₀ .tc) α} {Q : α → sProp 𝕄} :
    iprop(pctx st K c ∗ sendRes st c (nth n) ∗ owing c (dueSend c (n + 1)))
      ⊢ iprop(((cred (tallyAt (sendCell c (nth n)) () N) ∗ owing c (dueSend c n))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slotM 0 zlt) (.remote (p : Thread nD τ) (slotJ (nth n)) (.dma (sendJ (nth n))) hsc)
            (.dma (recvJ (nth n))) hsrc hdst hsem) k) Q) := by
  subst hp
  unfold sendRes owing barPay sendPay
  iintro ⟨#HP, ⟨Ht1, Ht2, Hx, ⟨%fd, Hd⟩, #Hr⟩, %W, HO⟩ Hk
  iapply (Rounds.wp_send_pointsTo 𝒱₀ ER (Rd st) (c : Thread nD τ) none (c' := (fwd c (nth n) : Thread nD τ))
      (src := slotM 0 zlt) (dst := slotJ (nth n))
      (sS := .dma (sendJ (nth n))) (sem := .dma (recvJ (nth n))) (q := Transfers.shareTok fullShare 7 (nth n)) (fs := commOf st c)
      (κ₁ := K (sendCell c (nth n))) (κ₂ := K (recvCell (fwd c (nth n)) (nth n)))
      (r₁ := 0) (r₂ := 0) (d₁ := 0) (d₂ := 0) (fd := fd)
      (by rw [duties_send]; exact Finset.mem_singleton_self _) (by rw [duties_recv]; exact Finset.mem_singleton_self _)
      () () N rfl (amount_send st c _ 0) (amount_recv st _ _ 0) (dueSend c n) rfl (W := W)
      (by rw [payload_send]; exact BI.Entails.refl _)
      (by rw [payload_recv]; exact Entails.of_eq (landed st c (nth n) fd))) $$ [Hx Hd HO Ht1 Ht2]
  · isplitr; · iapply (pctx_send st K c); iexact HP
    isplitr; · iapply (pctx_recv st K c); iexact HP
    isplitl [Hx]; · iexact Hx
    isplitl [Hd]; · iexact Hd
    isplitl [HO]; · iexact HO
    isplitl [Ht1]; · iexact Ht1
    isplitr; · iapply (pctx_rsend st K c); iexact HP
    isplitl [Ht2]; · iexact Ht2
    iexact Hr
  iintro ⟨HcS, HO⟩
  iapply Hk
  isplitl [HcS]; · iexact HcS
  iexists W; iexact HO

/-! ## The waits -/

theorem step_waitSend (K : GSem nD τ sig → ℕ) (c : Dev nD) (j : Fin 7)
    {hsrc : (slotJ j).view.WordExact} {hdst : (slotM 0 zlt).view.WordExact}
    {k : PUnit → Prog (TpuEff nD τ sig (Elt F) Λ₀ .tc) α} {Q : α → sProp 𝕄} :
    iprop(pctx st K c ∗ cred (tallyAt (sendCell c j) () N) ∗ atPos ER (sendCell c j) 0 ∅ 0 ∗ owing c 0)
      ⊢ iprop(((semVal (sendCell c j) 0 ∗ sendPay st c j ∗ owing c 0)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (sendJ j) (slotJ j) (slotM 0 zlt) hsrc hdst) k) Q) := by
  unfold owing
  iintro ⟨#HP, Hc, Hat, %W, HO⟩ Hk
  iapply (Rounds.wp_wait_rest_token 𝒱₀ ER (Rd st) (c : Thread nD τ) none (κ := K (sendCell c j))
      (wpE_waitDma2_eq (hsrc := hsrc) (hdst := hdst) 𝒱₀ (c : Thread nD τ) none Set.univ) (Set.mem_univ _) () (O := 0) (W := W) (R := 0) (m := 0) (T := ∅)
      ((Nat.zero_add _).trans (expect_send st c j).symm)) $$ [Hc HO Hat]
  · isplitr; · iapply (pctx_send st K c); iexact HP
    isplitl [Hc]; · iexact Hc
    isplitl [HO]; · iexact HO
    isplitr; · rw [MayWait_zero]; iempintro
    iexact Hat
  iintro ⟨HO, Hat, -, Hpay⟩
  ihave Hp := (Entails.of_eq (rest_send st c j)) $$ Hpay
  imod (close st (K (sendCell c j)) (sendCell c j)) $$ [Hat] with Hb0
  · isplitr; · iapply (pctx_send st K c); iexact HP
    iexact Hat
  iapply Hk
  isplitl [Hb0]; · iexact Hb0
  isplitl [Hp]; · iexact Hp
  iexists _; iexact HO

theorem step_waitRecv (K : GSem nD τ sig → ℕ) (c : Dev nD) (j : Fin 7)
    {hsrc : (slotM 0 zlt).view.WordExact} {hdst : (slotJ j).view.WordExact}
    {k : PUnit → Prog (TpuEff nD τ sig (Elt F) Λ₀ .tc) α} {Q : α → sProp 𝕄} :
    iprop(pctx st K c ∗ cred (tallyAt (recvCell c j) () N) ∗ atPos ER (recvCell c j) 0 ∅ 0 ∗ owing c 0)
      ⊢ iprop(((semVal (recvCell c j) 0 ∗ recvPay st c j ∗ owing c 0)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (recvJ j) (slotM 0 zlt) (slotJ j) hsrc hdst) k) Q) := by
  unfold owing
  iintro ⟨#HP, Hc, Hat, %W, HO⟩ Hk
  iapply (Rounds.wp_wait_rest_token 𝒱₀ ER (Rd st) (c : Thread nD τ) none (κ := K (recvCell c j))
      (wpE_waitDma2_eq (hsrc := hsrc) (hdst := hdst) 𝒱₀ (c : Thread nD τ) none Set.univ) (Set.mem_univ _) () (O := 0) (W := W) (R := 0) (m := 0) (T := ∅)
      ((Nat.zero_add _).trans (expect_recv st c j).symm)) $$ [Hc HO Hat]
  · isplitr; · iapply (pctx_recv st K c); iexact HP
    isplitl [Hc]; · iexact Hc
    isplitl [HO]; · iexact HO
    isplitr; · rw [MayWait_zero]; iempintro
    iexact Hat
  iintro ⟨HO, Hat, -, Hpay⟩
  ihave Hp := (Entails.of_eq (rest_recv st c j)) $$ Hpay
  imod (close st (K (recvCell c j)) (recvCell c j)) $$ [Hat] with Hb0
  · isplitr; · iapply (pctx_recv st K c); iexact HP
    iexact Hat
  iapply Hk
  isplitl [Hb0]; · iexact Hb0
  isplitl [Hp]; · iexact Hp
  iexists _; iexact HO

end Cert.KernelIdeal.Proto
end
-- ==== Proof.Progs.lean ====
module

public import proofs.«01_k».proof.Proof.Steps

/-!
# The kernel body in three pieces
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

abbrev xM : Memref sig .tc .hbm S1024x512 .f32 := Memref.whole main_arg0
abbrev gM : Memref sig .tc .vmem S1x512 .f32 := Memref.whole cc0_stg0_0
abbrev bM : Memref sig .tc .vmem S1x512 .f32 := Memref.whole cc0_stg1_0
abbrev oM : Memref sig .tc .hbm S1024x512 .f32 := Memref.whole main_v3
abbrev xvM : Memref sig .tc .vmem S1024x512 .f32 := Memref.whole cc0_scratch0
abbrev ovM : Memref sig .tc .vmem S1024x512 .f32 := Memref.whole cc0_scratch1

/-- The statistics: the signals, the loads of `x`, the row sums into slot 0, the barrier wait and the first copy. -/
def frontProg : Prog (TpuEff nD τ sig (Elt F) Λ₀ .tc) (Σ' (d0 : Dev nD) (v2 : BitVec 32) (v113 : BitVec 32), BitVec 32) := do
  let ⟨d0, v2, v3, v24, c8_i32_20⟩ : Σ' (d0 : Dev nD) (v2 : BitVec 32) (v3 : Sems sig S_) (v24 : BitVec 32), BitVec 32 ← k0_part1 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
  k0_part2 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v3 v24 c8_i32_20
  let v76 : FVec F S2x128 .f32 ← k0_part3 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
  let ⟨v100, v102⟩ : Σ' (v100 : Vec F S256x512 .f32), FVec F S2x128 .f32 ← k0_part4 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v76
  let ⟨v113, v125⟩ : Σ' (v113 : BitVec 32), BitVec 32 ← k0_part5 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v3 v100 v102
  pure ⟨d0, v2, v113, v125⟩

/-- The exchange: the other six copies, and the waits but for the last receive. -/
def midProg (d0 : Dev nD) (v2 v113 v125 : BitVec 32) : Prog (TpuEff nD τ sig (Elt F) Λ₀ .tc) (BitVec 32) := do
  let ⟨v137, v149, v161⟩ : Σ' (v137 : BitVec 32) (v149 : BitVec 32), BitVec 32 ← k0_part6 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2
  let ⟨v173, v185⟩ : Σ' (v173 : BitVec 32), BitVec 32 ← k0_part7 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v2 v161
  k0_part8 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v113
  k0_part9 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v125 v137
  k0_part10 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v149 v161
  k0_part11 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v173
  pure v185

/-- The result: the last receive, the totals, the normalised rows and their stores. -/
def backProg (v185 : BitVec 32) : Prog (TpuEff nD τ sig (Elt F) Λ₀ .tc) PUnit := do
  let v313 : FVec F S16x128 .f32 ← k0_part12 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v185
  let ⟨v316, v353, v354⟩ : Σ' (v316 : FVec F S16x128 .f32) (v353 : FVec F S256 .f32), FVec F S256 .f32 ← k0_part13 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v313
  let ⟨v390, v394, v395⟩ : Σ' (v390 : FVec F S256 .f32) (v394 : FVec F S256 .f32), FVec F S256 .f32 ← k0_part14 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v316 v353 v354
  let ⟨v425, v434⟩ : Σ' (v425 : FVec F S256 .f32), FVec F S256 .f32 ← k0_part15 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v316 v390 v394 v395
  k0_part16 (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v425 v434
  let v467 : Memref sig .tc .hbm S256x512 .f32 := oM.slice (Rect.unit (s := S1024x512) ![512, 0] S256x512.size Facts₀.inb_S1024x512_S256x512_512_0) (fun _ => rfl)
  let v468 : Memref sig .tc .vmem S256x512 .f32 := ovM.slice (Rect.unit (s := S1024x512) ![512, 0] S256x512.size Facts₀.inb_S1024x512_S256x512_512_0) (fun _ => rfl)
  let v465 : DmaSems sig S1 := cc0_scratch4.slice (Rect.unit (s := S4) ![2] S1.size Facts₀.inb_S4_S1_2)
  let v466 : DmaSems sig S_ := v465.squeeze S_ Facts₀.squeezes_S1_S_
  Prog.lift (.waitDma2 v466.sem v468 v467 (View.wordExact_bits rfl) (View.wordExact_bits rfl))
  let v469 : DmaSems sig S1 := cc0_scratch4.slice (Rect.unit (s := S4) ![3] S1.size Facts₀.inb_S4_S1_3)
  let v470 : DmaSems sig S_ := v469.squeeze S_ Facts₀.squeezes_S1_S_
  let v471 : Memref sig .tc .hbm S256x512 .f32 := oM.slice (Rect.unit (s := S1024x512) ![768, 0] S256x512.size Facts₀.inb_S1024x512_S256x512_768_0) (fun _ => rfl)
  let v472 : Memref sig .tc .vmem S256x512 .f32 := ovM.slice (Rect.unit (s := S1024x512) ![768, 0] S256x512.size Facts₀.inb_S1024x512_S256x512_768_0) (fun _ => rfl)
  Prog.lift (.waitDma2 v470.sem v472 v471 (View.wordExact_bits rfl) (View.wordExact_bits rfl))
  pure ⟨⟩

/-- The kernel body is the three in turn. -/
theorem body_eq : cc0_body (F := F) (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6
    = frontProg.bind fun r => (midProg r.1 r.2.1 r.2.2.1 r.2.2.2).bind backProg := by
  rfl

end Cert.KernelIdeal.Proto
end
-- ==== Proof.Stats.lean ====
module

public import proofs.«01_k».proof.Proof.Progs
public import Idealize.ShloMosaic.Lib.Exec

/-!
# The row statistics as the body writes them

The four loads bring the device's block of `x` in as four blocks of 256 rows; the four row sums and the four sums of squares fill
the sixteen rows of slot 0.
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

/-- The place of entry `i` of row block `k` in the whole block. -/
def rowIdx (k : ℕ) (h : k < 4) (i : S256x512.Idx) : S1024x512.Idx :=
  Fin.cons (⟨256 * k + (i 0).val, by have : (i 0).val < 256 := (i 0).isLt; omega⟩ : Fin 1024) (fun a => i a.succ)

/-- Row block `k` of contents `fx`. -/
def rows (k : ℕ) (h : k < 4) (fx : S1024x512.Idx → Elt F .f32) : Vec F S256x512 .f32 := fun i => fx (rowIdx k h i)

theorem rows_inb {k : ℕ} (h : k < 4) : ∀ a, (![256 * k, 0] : Fin 2 → Nat) a + S256x512.size a ≤ S1024x512.size a := by
  intro a; fin_cases a
  · show 256 * k + 256 ≤ 1024; omega
  · show 0 + 512 ≤ 512; omega

abbrev rowRect (k : ℕ) (h : k < 4) : Rect S1024x512 := Rect.unit (s := S1024x512) ![256 * k, 0] S256x512.size (rows_inb h)

theorem rowRect_emb (k : ℕ) (h : k < 4) (i : S256x512.Idx) : (rowRect k h).emb i = rowIdx k h i := by
  funext a; apply Fin.ext; fin_cases a
  · show 256 * k + 1 * (i 0).val = 256 * k + (i 0).val; omega
  · show 0 + 1 * (i 1).val = (i 1).val; omega

/-- The landed load of row block `k`. -/
abbrev xPiece (fx : S1024x512.Idx → Elt F .f32) (k : ℕ) (h : k < 4) : View.Piece (Elt F) S1024x512 .f32 :=
  ⟨rowRect k h, fun i => fx ((rowRect k h).emb i)⟩

/-- The four landed loads, last first. -/
def xPieces (fx : S1024x512.Idx → Elt F .f32) : List (View.Piece (Elt F) S1024x512 .f32) :=
  [xPiece fx 3 (by decide), xPiece fx 2 (by decide), xPiece fx 1 (by decide), xPiece fx 0 (by decide)]

theorem mem_xPieces (fx : S1024x512.Idx → Elt F .f32) : ∀ (k : ℕ) (h : k < 4), xPiece fx k h ∈ xPieces fx
  | 0, _ => .tail _ (.tail _ (.tail _ (.head _)))
  | 1, _ => .tail _ (.tail _ (.head _))
  | 2, _ => .tail _ (.head _)
  | 3, _ => .head _

theorem row_mem (y : S1024x512.Idx) (k : ℕ) (h : k < 4) (hy : 256 * k ≤ (y 0).val ∧ (y 0).val < 256 * k + 256) : y ∈ (rowRect k h).set := by
  refine (rowRect k h).mem_set.mpr fun a => ?_
  fin_cases a
  · exact ⟨(y 0).val - 256 * k, by show _ < 256; omega, by show (y 0).val = 256 * k + 1 * _; omega⟩
  · exact ⟨(y 1).val, (y 1).isLt, by show (y 1).val = 0 + 1 * _; omega⟩

theorem xPieces_read {κ : Kind} {sp : Space} (v : View sig κ sp S1024x512 .f32) (f : v.ty.Contents (Elt F)) (fx : S1024x512.Idx → Elt F .f32)
    (y : S1024x512.Idx) : v.read (Elt F) (v.writes (Elt F) f (xPieces fx)) y = fx y := by
  have hy : (y 0).val < 1024 := (y 0).isLt
  have hk : (y 0).val / 256 < 4 := by omega
  refine View.read_writes_apply_of_pieces v f fx (xPieces fx) ?_ y
    ⟨xPiece fx ((y 0).val / 256) hk, mem_xPieces fx _ hk, row_mem y _ hk ⟨by omega, by omega⟩⟩
  exact List.forall_mem_cons.mpr ⟨fun _ => rfl, List.forall_mem_cons.mpr ⟨fun _ => rfl, List.forall_mem_cons.mpr ⟨fun _ => rfl,
    List.forall_mem_cons.mpr ⟨fun _ => rfl, fun _ h => nomatch h⟩⟩⟩⟩

theorem loaded (fx : S1024x512.Idx → Elt F .f32) (k : ℕ) (h : k < 4) : xvM.view.readCov (xPieces fx) (rowRect k h).toLoadRect = rows k h fx := by
  funext i
  refine (xPieces_read xvM.view _ fx _).trans ?_
  show fx ((rowRect k h).emb i) = _
  rw [rowRect_emb]; rfl

/-- The scratch block once the four loads have landed over `fv`. -/
def xLanded (fv : xvM.view.ty.Contents (Elt F)) (fx : S1024x512.Idx → Elt F .f32) : xvM.view.ty.Contents (Elt F) :=
  xvM.view.writes (Elt F) fv (xPieces fx)

/-- Device `c`'s scratch block at contents `f`. -/
abbrev xvPts (c : Dev nD) (f : xvM.view.ty.Contents (Elt F)) : sProp 𝕄 := xvM.view.loc (c : Thread nD τ) ↦{fullShare} f

theorem xPieces_all {κ : Kind} {sp : Space} (v : View sig κ sp S1024x512 .f32) (f : v.ty.Contents (Elt F)) (fx : S1024x512.Idx → Elt F .f32) :
    v.read (Elt F) (v.writes (Elt F) f (xPieces fx)) = fx := funext fun y => xPieces_read v f fx y

theorem read_xv (g : xvM.view.ty.Contents (Elt F)) : xvM.view.read (Elt F) g = g := rfl

theorem xLanded_eq (fv fx : xvM.view.ty.Contents (Elt F)) : xLanded fv fx = fx := by
  rw [← read_xv (xLanded fv fx)]
  unfold xLanded
  exact xPieces_all xvM.view fv fx

theorem xv_done (c : Dev nD) (fx : S1024x512.Idx → Elt F .f32) (fv g : xvM.view.ty.Contents (Elt F)) (hg : g = xLanded fv fx) :
    xvPts c g ⊢ xvPts c fx :=
  Entails.of_eq (congrArg (xvPts c) (hg.trans (xLanded_eq fv fx)))

/-! ## Slot 0 -/

/-- The eight pieces of the statistics, by their pair of rows. -/
def statPay (a0 a1 a2 a3 : Vec F S256x512 .f32) : Fin 8 → FVec F S1x2x128 .f32 :=
  ![k0_pay1 a0, k0_pay3 a1, k0_pay6 a2, k0_pay9 (k0_pay8 a3), k0_pay2 a0, k0_pay5 (k0_pay4 a1), k0_pay7 a2, k0_pay10 a3]

/-- Row `r` of the statistics is row `r % 2` of piece `r / 2`. -/
def statRow (a0 a1 a2 a3 : Vec F S256x512 .f32) (y : S16x128.Idx) : Elt F .f32 :=
  statPay a0 a1 a2 a3 (⟨(y 0).val / 2, by have : (y 0).val < 16 := (y 0).isLt; omega⟩ : Fin 8)
    (Fin.cons (⟨0, Nat.one_pos⟩ : Fin 1) (Fin.cons (⟨(y 0).val % 2, Nat.mod_lt _ (by decide)⟩ : Fin 2) (fun a => y a.succ)) : S1x2x128.Idx)

/-- The statistics of a device's block of `x`. -/
def statsOf (fx : S1024x512.Idx → Elt F .f32) : S16x128.Idx → Elt F .f32 :=
  statRow (rows 0 (by decide) fx) (rows 1 (by decide) fx) (rows 2 (by decide) fx) (rows 3 (by decide) fx)

theorem stat_inb {k : ℕ} (h : k < 8) : ∀ a, (![0, 2 * k, 0] : Fin 3 → Nat) a + S1x2x128.size a ≤ S8x16x128.size a := by
  intro a; fin_cases a
  · show 0 + 1 ≤ 8; omega
  · show 2 * k + 2 ≤ 16; omega
  · show 0 + 128 ≤ 128; omega

abbrev statRect (k : ℕ) (h : k < 8) : Rect S8x16x128 := Rect.unit (s := S8x16x128) ![0, 2 * k, 0] S1x2x128.size (stat_inb h)

abbrev statPiece (a0 a1 a2 a3 : Vec F S256x512 .f32) (k : ℕ) (h : k < 8) : View.Piece (Elt F) S8x16x128 .f32 :=
  ⟨statRect k h, statPay a0 a1 a2 a3 ⟨k, h⟩⟩

/-- The eight stores, last first. -/
def statPieces (a0 a1 a2 a3 : Vec F S256x512 .f32) : List (View.Piece (Elt F) S8x16x128 .f32) :=
  [statPiece a0 a1 a2 a3 7 (by decide), statPiece a0 a1 a2 a3 3 (by decide), statPiece a0 a1 a2 a3 6 (by decide), statPiece a0 a1 a2 a3 2 (by decide),
    statPiece a0 a1 a2 a3 5 (by decide), statPiece a0 a1 a2 a3 1 (by decide), statPiece a0 a1 a2 a3 4 (by decide), statPiece a0 a1 a2 a3 0 (by decide)]

theorem mem_statPieces (a0 a1 a2 a3 : Vec F S256x512 .f32) : ∀ (k : ℕ) (h : k < 8), statPiece a0 a1 a2 a3 k h ∈ statPieces a0 a1 a2 a3
  | 7, _ => .head _
  | 3, _ => .tail _ (.head _)
  | 6, _ => .tail _ (.tail _ (.head _))
  | 2, _ => .tail _ (.tail _ (.tail _ (.head _)))
  | 5, _ => .tail _ (.tail _ (.tail _ (.tail _ (.head _))))
  | 1, _ => .tail _ (.tail _ (.tail _ (.tail _ (.tail _ (.head _)))))
  | 4, _ => .tail _ (.tail _ (.tail _ (.tail _ (.tail _ (.tail _ (.head _))))))
  | 0, _ => .tail _ (.tail _ (.tail _ (.tail _ (.tail _ (.tail _ (.tail _ (.head _)))))))

theorem statRow_eq (a0 a1 a2 a3 : Vec F S256x512 .f32) (k : ℕ) (h : k < 8) (x : S1x2x128.Idx) (y : S16x128.Idx) (h0 : (y 0).val = 2 * k + (x 1).val)
    (h1 : (y 1).val = (x 2).val) : statPay a0 a1 a2 a3 ⟨k, h⟩ x = statRow a0 a1 a2 a3 y := by
  have hx : (x 1).val < 2 := (x 1).isLt
  have hx0 : (x 0).val < 1 := (x 0).isLt
  have ek : (⟨k, h⟩ : Fin 8) = ⟨(y 0).val / 2, by have : (y 0).val < 16 := (y 0).isLt; omega⟩ := Fin.ext (by show k = (y 0).val / 2; omega)
  have ex : x = (Fin.cons (⟨0, Nat.one_pos⟩ : Fin 1) (Fin.cons (⟨(y 0).val % 2, Nat.mod_lt _ (by decide)⟩ : Fin 2) (fun a => y a.succ)) : S1x2x128.Idx) := by
    funext a; apply Fin.ext
    fin_cases a
    · show (x 0).val = 0; omega
    · show (x 1).val = (y 0).val % 2; omega
    · exact h1.symm
  unfold statRow
  exact congrArg₂ (statPay a0 a1 a2 a3) ek ex

theorem statPiece_val (a0 a1 a2 a3 : Vec F S256x512 .f32) (k : ℕ) (h : k < 8) (x : (statPiece a0 a1 a2 a3 k h).1.shape.Idx) :
    (statPiece a0 a1 a2 a3 k h).2 x = statRow a0 a1 a2 a3 (tailIdx ((statPiece a0 a1 a2 a3 k h).1.emb x)) :=
  statRow_eq a0 a1 a2 a3 k h x _ (by show 2 * k + 1 * (x 1).val = _; omega) (by show 0 + 1 * (x 2).val = _; omega)

theorem stat_mem (i : S8x16x128.Idx) (h0 : (i 0).val = 0) (k : ℕ) (h : k < 8) (hk : (i 1).val / 2 = k) : i ∈ (statRect k h).set := by
  refine (statRect k h).mem_set.mpr fun a => ?_
  fin_cases a
  · exact ⟨0, Nat.one_pos, by show (i 0).val = 0 + 1 * 0; omega⟩
  · exact ⟨(i 1).val % 2, Nat.mod_lt _ (by decide), by show (i 1).val = 2 * k + 1 * _; omega⟩
  · exact ⟨(i 2).val, (i 2).isLt, by show (i 2).val = 0 + 1 * _; omega⟩

theorem statPieces_read (fc : cM.view.ty.Contents (Elt F)) (a0 a1 a2 a3 : Vec F S256x512 .f32) (i : S8x16x128.Idx) (h0 : (i 0).val = 0) :
    cM.view.read (Elt F) (cM.view.writes (Elt F) fc (statPieces a0 a1 a2 a3)) i = statRow a0 a1 a2 a3 (tailIdx i) := by
  have hi : (i 1).val < 16 := (i 1).isLt
  have hk : (i 1).val / 2 < 8 := by omega
  refine View.read_writes_apply_of_pieces cM.view fc (fun i => statRow a0 a1 a2 a3 (tailIdx i)) (statPieces a0 a1 a2 a3) ?_ i
    ⟨statPiece a0 a1 a2 a3 ((i 1).val / 2) hk, mem_statPieces a0 a1 a2 a3 _ hk, stat_mem i h0 _ hk rfl⟩
  exact List.forall_mem_cons.mpr ⟨statPiece_val a0 a1 a2 a3 7 _, List.forall_mem_cons.mpr ⟨statPiece_val a0 a1 a2 a3 3 _,
    List.forall_mem_cons.mpr ⟨statPiece_val a0 a1 a2 a3 6 _, List.forall_mem_cons.mpr ⟨statPiece_val a0 a1 a2 a3 2 _,
    List.forall_mem_cons.mpr ⟨statPiece_val a0 a1 a2 a3 5 _, List.forall_mem_cons.mpr ⟨statPiece_val a0 a1 a2 a3 1 _,
    List.forall_mem_cons.mpr ⟨statPiece_val a0 a1 a2 a3 4 _, List.forall_mem_cons.mpr ⟨statPiece_val a0 a1 a2 a3 0 _, fun _ h => nomatch h⟩⟩⟩⟩⟩⟩⟩⟩

/-- Slot 0 once the eight stores are done over `fc`. -/
def statDone (fc : cM.view.ty.Contents (Elt F)) (a0 a1 a2 a3 : Vec F S256x512 .f32) : cM.view.ty.Contents (Elt F) :=
  cM.view.writes (Elt F) fc (statPieces a0 a1 a2 a3)

theorem stats_done (st : Dev nD → S16x128.Idx → Elt F .f32) (c : Dev nD) (fx : S1024x512.Idx → Elt F .f32) (hst : st c = statsOf fx)
    (fc g : cM.view.ty.Contents (Elt F)) (a0 a1 a2 a3 : Vec F S256x512 .f32) (h0 : a0 = rows 0 (by decide) fx) (h1 : a1 = rows 1 (by decide) fx)
    (h2 : a2 = rows 2 (by decide) fx) (h3 : a3 = rows 3 (by decide) fx)
    (hg : g = statDone fc a0 a1 a2 a3) : (slotPts c 0 zlt fullShare g : sProp 𝕄) ⊢ slotPts c 0 zlt fullShare (commOf st c) := by
  subst hg h0 h1 h2 h3
  refine Entails.of_eq (slotPts_congr _ _ _ _ _ _ fun y => ?_)
  rw [comm_slotIdx, back_zero, hst]
  exact statPieces_read fc _ _ _ _ (slotIdx 0 zlt y) rfl

end Cert.KernelIdeal.Proto
end
-- ==== Proof.Front.lean ====
module

public import proofs.«01_k».proof.Proof.Stats

/-!
# The body up to its first copy
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

variable (st : Dev nD → S16x128.Idx → Elt F .f32)

/-- One of a family for each of the seven peers, in the order the body takes them. -/
theorem seven (Φ : Fin 7 → sProp 𝕄) : bigSep Finset.univ Φ
    = iprop(Φ (nth 6) ∗ Φ (nth 5) ∗ Φ (nth 4) ∗ Φ (nth 3) ∗ Φ (nth 2) ∗ Φ (nth 1) ∗ Φ (nth 0)) :=
  bigSep_univ_eq_bigSepL [nth 6, nth 5, nth 4, nth 3, nth 2, nth 1, nth 0] (by decide) (by decide) Φ

/-- Device `c`'s DMA cell number `k`. -/
abbrev dmaCell (c : Dev nD) (k : ℕ) (h : k < 26) : GSem nD τ sig := ((c : Thread nD τ), .dma ⟨k, h⟩)

theorem dev_fwd {m : ℕ} (c : Dev nD) (j : Fin 7) {h : m < 8} (e : m = (c.val + (j.val + 1)) % 8) : (⟨m, h⟩ : Dev nD) = fwd c j :=
  Fin.ext (e.trans (by rw [← Nat.add_assoc]; rfl))

/-- Device `c`'s block of `x` at contents `f`. -/
abbrev xPts (c : Dev nD) (f : xM.view.ty.Contents (Elt F)) : sProp 𝕄 := xM.view.loc (c : Thread nD τ) ↦{fullShare} f

/-- The four cells of the loads, at rest. -/
def loadCells (c : Dev nD) : sProp 𝕄 :=
  iprop(semVal (dmaCell c 2 (by decide)) 0 ∗ semVal (dmaCell c 3 (by decide)) 0 ∗ semVal (dmaCell c 4 (by decide)) 0 ∗ semVal (dmaCell c 5 (by decide)) 0)

/-- The tokens of copy `j`: of its send and of its landing. -/
def copyToks (c : Dev nD) (j : Fin 7) : sProp 𝕄 :=
  iprop(dutyTok ER (sendCell c j) 0 0 ∗ dutyTok ER (recvCell (fwd c j) j) 0 0)

/-- What slot 0 keeps while its seven shares are lent. -/
def slotRest (c : Dev nD) : sProp 𝕄 := slotPts c 0 zlt (Transfers.shareDrop fullShare 7) (commOf st c)

/-- What the first part of the body leaves. -/
def frontPost (c : Dev nD) (fx : S1024x512.Idx → Elt F .f32) : sProp 𝕄 :=
  iprop((cred (tallyAt (sendCell c (nth 6)) () N) ∗ owing c (dueSend c 6))
    ∗ (sendRes st c (nth 5) ∗ sendRes st c (nth 4) ∗ sendRes st c (nth 3) ∗ sendRes st c (nth 2) ∗ sendRes st c (nth 1) ∗ sendRes st c (nth 0))
    ∗ slotRest st c ∗ semVal (barCell c) 0 ∗ loadCells c ∗ xPts c fx ∗ xvPts c fx)

/-- Slot 0 dealt to the seven copies. -/
theorem deal (c : Dev nD) : (slotPts c 0 zlt fullShare (commOf st c) : sProp 𝕄)
    ⊢ iprop(slotRest st c ∗ bigSep Finset.univ fun j => sendPay st c j) :=
  Transfers.pointsTo_toks_split fullShare 7

/-- and given back. -/
theorem undeal (c : Dev nD) : iprop(slotRest st c ∗ bigSep Finset.univ fun j => sendPay st c j)
    ⊢ (slotPts c 0 zlt fullShare (commOf st c) : sProp 𝕄) :=
  Transfers.pointsTo_toks_join fullShare 7

/-- Tokens, share and slot make what copy `j` takes. -/
theorem sendRes_one (c : Dev nD) (j : Fin 7) : iprop(copyToks c j ∗ sendPay st c j ∗ barPay c j) ⊢ (sendRes st c j : sProp 𝕄) := by
  unfold copyToks sendRes
  iintro ⟨⟨H1, H2⟩, H3, H4⟩
  isplitl [H1]; · iexact H1
  isplitl [H2]; · iexact H2
  isplitl [H3]; · iexact H3
  iexact H4

theorem sendRes_all (c : Dev nD) :
    iprop((bigSep Finset.univ fun j => copyToks c j) ∗ (bigSep Finset.univ fun j => sendPay st c j) ∗ (bigSep Finset.univ fun j => barPay c j))
      ⊢ (bigSep Finset.univ fun j => sendRes st c j : sProp 𝕄) := by
  rw [← bigSep_sep', ← bigSep_sep']
  exact bigSep_mono fun j _ => sendRes_one st c j

set_option sl_exec.dmaWindow true in
set_option maxHeartbeats 4000000 in
theorem frontRun (K : GSem nD τ sig → ℕ) (c : Dev nD) (fx : (main_arg0 : Ref sig .tc).ty.Contents (Elt F)) (hst : st c = statsOf fx)
    (fv : (cc0_scratch0 : Ref sig .tc).ty.Contents (Elt F)) (fc : cM.view.ty.Contents (Elt F)) (Kt : _ → sProp 𝕄) :
    iprop(pctx st K c ∗ (bigSep Finset.univ fun j => sigRes c j) ∗ (bigSep Finset.univ fun j => copyToks c j)
        ∗ cred (tallyAt (barCell c) () 7) ∗ atPos ER (barCell c) 0 ∅ 0 ∗ owing c (dueAll c 7)
        ∗ loadCells c ∗ xPts c fx ∗ xvPts c fv ∗ slotPts c 0 zlt fullShare fc
        ∗ (∀ v2 v113 v125, frontPost st c fx -∗ Kt ⟨c, v2, v113, v125⟩))
      ⊢ wp frame (wpE (defs₀ (F := F)) 𝒱₀ (c : Thread nD τ) none) Set.univ (frontProg (F := F)) Kt := by
  unfold frontProg loadCells
  rw [seven fun j => sigRes c j]
  iintro ⟨#HP, ⟨Hs6, Hs5, Hs4, Hs3, Hs2, Hs1, Hs0⟩, Htok, Hcb, Hab, HO, ⟨Hl0, Hl1, Hl2, Hl3⟩, Hx, Hv, Hc, Hk⟩
  sl_exec
  iapply (step_signal st K c 6 (p := ⟨k0_dev1 c, k0_dev1_lt c⟩) (dev_fwd c (nth 6) (k0_dev1_eq c)) rfl) $$ [Hs6 HO]
  · isplitr; · iexact HP
    isplitl [Hs6] <;> iassumption
  iintro HO
  sl_exec
  iapply (step_signal st K c 5 (p := ⟨k0_dev2 c, k0_dev2_lt c⟩) (dev_fwd c (nth 5) (k0_dev2_eq c)) rfl) $$ [Hs5 HO]
  · isplitr; · iexact HP
    isplitl [Hs5] <;> iassumption
  iintro HO
  sl_exec
  iapply (step_signal st K c 4 (p := ⟨k0_dev3 c, k0_dev3_lt c⟩) (dev_fwd c (nth 4) (k0_dev3_eq c)) rfl) $$ [Hs4 HO]
  · isplitr; · iexact HP
    isplitl [Hs4] <;> iassumption
  iintro HO
  sl_exec
  iapply (step_signal st K c 3 (p := ⟨k0_dev4 c, k0_dev4_lt c⟩) (dev_fwd c (nth 3) (k0_dev4_eq c)) rfl) $$ [Hs3 HO]
  · isplitr; · iexact HP
    isplitl [Hs3] <;> iassumption
  iintro HO
  sl_exec
  iapply (step_signal st K c 2 (p := ⟨k0_dev5 c, k0_dev5_lt c⟩) (dev_fwd c (nth 2) (k0_dev5_eq c)) rfl) $$ [Hs2 HO]
  · isplitr; · iexact HP
    isplitl [Hs2] <;> iassumption
  iintro HO
  sl_exec
  iapply (step_signal st K c 1 (p := ⟨k0_dev6 c, k0_dev6_lt c⟩) (dev_fwd c (nth 1) (k0_dev6_eq c)) rfl) $$ [Hs1 HO]
  · isplitr; · iexact HP
    isplitl [Hs1] <;> iassumption
  iintro HO
  sl_exec
  iapply (step_signal st K c 0 (p := ⟨k0_dev7 c, k0_dev7_lt c⟩) (dev_fwd c (nth 0) (k0_dev7_eq c)) rfl) $$ [Hs0 HO]
  · isplitr; · iexact HP
    isplitl [Hs0] <;> iassumption
  iintro HO
  have hmw0 := mayWait_low (F := F) c 7 (.dma ⟨2, by decide⟩) (by decide)
  have hmw1 := mayWait_low (F := F) c 7 (.dma ⟨3, by decide⟩) (by decide)
  have hmw2 := mayWait_low (F := F) c 7 (.dma ⟨4, by decide⟩) (by decide)
  have hmw3 := mayWait_low (F := F) c 7 (.dma ⟨5, by decide⟩) (by decide)
  rw [dueAll]
  unfold owing
  icases HO with ⟨%W, HO⟩
  ihave #Hlev := (pctx_lev st K c) $$ HP
  sl_exec
  ihave Hv := (xv_done c fx fv (xvM.view.writes (Elt F) fv [⟨rowRect 3 (by decide), frontRun.sl.dma0_3 fx⟩, ⟨rowRect 2 (by decide), frontRun.sl.dma0_2 fx⟩,
    ⟨rowRect 1 (by decide), frontRun.sl.dma0_1 fx⟩, ⟨rowRect 0 (by decide), frontRun.sl.dma0 fx⟩]) rfl) $$ Hv
  ihave Hc := (stats_done st c fx hst fc (frontRun.sl.Hc_w8 fx fc) (frontRun.sl.v52 fx) (frontRun.sl.v68 fx) (frontRun.sl.v84 fx) (frontRun.sl.v100 fx)
    (loaded fx 0 (by decide)) (loaded fx 1 (by decide)) (loaded fx 2 (by decide)) (loaded fx 3 (by decide)) rfl) $$ Hc
  iapply (step_barrier st K c rfl) $$ [Hcb Hab HO]
  · isplitr; · iexact HP
    isplitl [Hcb]; · iexact Hcb
    isplitl [Hab]; · iexact Hab
    unfold owing; iexists _; iexact HO
  iintro ⟨Hbar, Hpay, HO⟩
  icases (deal st c) $$ Hc with ⟨Hrest, Hsh⟩
  icases (Entails.of_eq (seven fun j => sendRes st c j)) $$ [Htok Hsh Hpay] with ⟨Hr6, Hr⟩
  · iapply (sendRes_all st c)
    isplitl [Htok]; · iexact Htok
    isplitl [Hsh]; · iexact Hsh
    iexact Hpay
  sl_exec
  iapply (step_send st K c 6 (p := ⟨k0_dev8 c, k0_dev8_lt c⟩) (dev_fwd c (nth 6) (k0_dev8_eq c))) $$ [Hr6 HO]
  · isplitr; · iexact HP
    isplitl [Hr6] <;> iassumption
  iintro Hsent
  sl_exec
  rw [wp_ret]; imodintro
  iapply Hk
  unfold frontPost loadCells
  isplitl [Hsent]; · iexact Hsent
  isplitl [Hr]; · iexact Hr
  isplitl [Hrest]; · iexact Hrest
  isplitl [Hbar]; · iexact Hbar
  isplitl [Hl0 Hl1 Hl2 Hl3]
  · isplitl [Hl0]; · iexact Hl0
    isplitl [Hl1]; · iexact Hl1
    isplitl [Hl2]; · iexact Hl2
    iexact Hl3
  isplitl [Hx]; · iexact Hx
  iexact Hv

end Cert.KernelIdeal.Proto
end
-- ==== Proof.Mid.lean ====
module

public import proofs.«01_k».proof.Proof.Front

/-!
# The exchange

The other six copies go out, then the waits alternate: a copy of one's own is known read, a copy of a peer's is known landed.
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

variable (st : Dev nD → S16x128.Idx → Elt F .f32)

/-- What the wait for copy `j` to land takes. -/
def recvToks (c : Dev nD) (j : Fin 7) : sProp 𝕄 :=
  iprop(cred (tallyAt (recvCell c j) () N) ∗ atPos ER (recvCell c j) 0 ∅ 0)

/-- What it leaves. -/
def recvLeft (c : Dev nD) (j : Fin 7) : sProp 𝕄 := iprop(semVal (recvCell c j) 0 ∗ recvPay st c j)

/-- What the second part of the body leaves: only the last landing is still to be waited for. -/
def midPost (c : Dev nD) : sProp 𝕄 :=
  iprop((bigSep Finset.univ fun j => semVal (sendCell c j) 0) ∗ (bigSep Finset.univ fun j => sendPay st c j)
    ∗ (recvLeft st c (nth 6) ∗ recvLeft st c (nth 5) ∗ recvLeft st c (nth 4) ∗ recvLeft st c (nth 3) ∗ recvLeft st c (nth 2) ∗ recvLeft st c (nth 1))
    ∗ owing c 0)

set_option maxHeartbeats 4000000 in
theorem midRun (K : GSem nD τ sig → ℕ) (c : Dev nD) (v2 v113 v125 : BitVec 32) (Kt : BitVec 32 → sProp 𝕄) :
    iprop(pctx st K c ∗ (cred (tallyAt (sendCell c (nth 6)) () N) ∗ owing c (dueSend c 6))
        ∗ (sendRes st c (nth 5) ∗ sendRes st c (nth 4) ∗ sendRes st c (nth 3) ∗ sendRes st c (nth 2) ∗ sendRes st c (nth 1) ∗ sendRes st c (nth 0))
        ∗ (bigSep Finset.univ fun j => atPos ER (sendCell c j) 0 ∅ 0)
        ∗ (recvToks c (nth 6) ∗ recvToks c (nth 5) ∗ recvToks c (nth 4) ∗ recvToks c (nth 3) ∗ recvToks c (nth 2) ∗ recvToks c (nth 1))
        ∗ (∀ v, midPost st c -∗ Kt v))
      ⊢ wp frame (wpE (defs₀ (F := F)) 𝒱₀ (c : Thread nD τ) none) Set.univ (midProg (F := F) c v2 v113 v125) Kt := by
  unfold midProg
  rw [seven fun j => atPos ER (sendCell c j) 0 ∅ 0]
  iintro ⟨#HP, ⟨Hc6, HO⟩, ⟨Hr5, Hr4, Hr3, Hr2, Hr1, Hr0⟩, ⟨Ha6, Ha5, Ha4, Ha3, Ha2, Ha1, Ha0⟩, ⟨Hq6, Hq5, Hq4, Hq3, Hq2, Hq1⟩, Hk⟩
  sl_exec
  iapply (step_send st K c 5 (p := ⟨k0_dev9 c, k0_dev9_lt c⟩) (dev_fwd c (nth 5) (k0_dev9_eq c))) $$ [Hr5 HO]
  · isplitr; · iexact HP
    isplitl [Hr5] <;> iassumption
  iintro ⟨Hc5, HO⟩
  sl_exec
  iapply (step_send st K c 4 (p := ⟨k0_dev10 c, k0_dev10_lt c⟩) (dev_fwd c (nth 4) (k0_dev10_eq c))) $$ [Hr4 HO]
  · isplitr; · iexact HP
    isplitl [Hr4] <;> iassumption
  iintro ⟨Hc4, HO⟩
  sl_exec
  iapply (step_send st K c 3 (p := ⟨k0_dev11 c, k0_dev11_lt c⟩) (dev_fwd c (nth 3) (k0_dev11_eq c))) $$ [Hr3 HO]
  · isplitr; · iexact HP
    isplitl [Hr3] <;> iassumption
  iintro ⟨Hc3, HO⟩
  sl_exec
  iapply (step_send st K c 2 (p := ⟨k0_dev12 c, k0_dev12_lt c⟩) (dev_fwd c (nth 2) (k0_dev12_eq c))) $$ [Hr2 HO]
  · isplitr; · iexact HP
    isplitl [Hr2] <;> iassumption
  iintro ⟨Hc2, HO⟩
  sl_exec
  iapply (step_send st K c 1 (p := ⟨k0_dev13 c, k0_dev13_lt c⟩) (dev_fwd c (nth 1) (k0_dev13_eq c))) $$ [Hr1 HO]
  · isplitr; · iexact HP
    isplitl [Hr1] <;> iassumption
  iintro ⟨Hc1, HO⟩
  sl_exec
  iapply (step_send st K c 0 (p := ⟨k0_dev14 c, k0_dev14_lt c⟩) (dev_fwd c (nth 0) (k0_dev14_eq c))) $$ [Hr0 HO]
  · isplitr; · iexact HP
    isplitl [Hr0] <;> iassumption
  iintro ⟨Hc0, HO⟩
  ihave HO := (show owing c (dueSend c 0) ⊢ (owing c 0 : sProp 𝕄) from .rfl) $$ HO
  sl_exec
  iapply (step_waitSend st K c (nth 6)) $$ [Hc6 Ha6 HO]
  · isplitr; · iexact HP
    isplitl [Hc6]; · iexact Hc6
    isplitl [Ha6] <;> iassumption
  iintro ⟨Hv6, Hp6, HO⟩
  sl_exec
  iapply (step_waitRecv st K c (nth 6)) $$ [Hq6 HO]
  · isplitr; · iexact HP
    unfold recvToks
    icases Hq6 with ⟨Hq, Hb⟩
    isplitl [Hq]; · iexact Hq
    isplitl [Hb] <;> iassumption
  iintro ⟨Hw6, Hz6, HO⟩
  sl_exec
  iapply (step_waitSend st K c (nth 5)) $$ [Hc5 Ha5 HO]
  · isplitr; · iexact HP
    isplitl [Hc5]; · iexact Hc5
    isplitl [Ha5] <;> iassumption
  iintro ⟨Hv5, Hp5, HO⟩
  sl_exec
  iapply (step_waitRecv st K c (nth 5)) $$ [Hq5 HO]
  · isplitr; · iexact HP
    unfold recvToks
    icases Hq5 with ⟨Hq, Hb⟩
    isplitl [Hq]; · iexact Hq
    isplitl [Hb] <;> iassumption
  iintro ⟨Hw5, Hz5, HO⟩
  sl_exec
  iapply (step_waitSend st K c (nth 4)) $$ [Hc4 Ha4 HO]
  · isplitr; · iexact HP
    isplitl [Hc4]; · iexact Hc4
    isplitl [Ha4] <;> iassumption
  iintro ⟨Hv4, Hp4, HO⟩
  sl_exec
  iapply (step_waitRecv st K c (nth 4)) $$ [Hq4 HO]
  · isplitr; · iexact HP
    unfold recvToks
    icases Hq4 with ⟨Hq, Hb⟩
    isplitl [Hq]; · iexact Hq
    isplitl [Hb] <;> iassumption
  iintro ⟨Hw4, Hz4, HO⟩
  sl_exec
  iapply (step_waitSend st K c (nth 3)) $$ [Hc3 Ha3 HO]
  · isplitr; · iexact HP
    isplitl [Hc3]; · iexact Hc3
    isplitl [Ha3] <;> iassumption
  iintro ⟨Hv3, Hp3, HO⟩
  sl_exec
  iapply (step_waitRecv st K c (nth 3)) $$ [Hq3 HO]
  · isplitr; · iexact HP
    unfold recvToks
    icases Hq3 with ⟨Hq, Hb⟩
    isplitl [Hq]; · iexact Hq
    isplitl [Hb] <;> iassumption
  iintro ⟨Hw3, Hz3, HO⟩
  sl_exec
  iapply (step_waitSend st K c (nth 2)) $$ [Hc2 Ha2 HO]
  · isplitr; · iexact HP
    isplitl [Hc2]; · iexact Hc2
    isplitl [Ha2] <;> iassumption
  iintro ⟨Hv2, Hp2, HO⟩
  sl_exec
  iapply (step_waitRecv st K c (nth 2)) $$ [Hq2 HO]
  · isplitr; · iexact HP
    unfold recvToks
    icases Hq2 with ⟨Hq, Hb⟩
    isplitl [Hq]; · iexact Hq
    isplitl [Hb] <;> iassumption
  iintro ⟨Hw2, Hz2, HO⟩
  sl_exec
  iapply (step_waitSend st K c (nth 1)) $$ [Hc1 Ha1 HO]
  · isplitr; · iexact HP
    isplitl [Hc1]; · iexact Hc1
    isplitl [Ha1] <;> iassumption
  iintro ⟨Hv1, Hp1, HO⟩
  sl_exec
  iapply (step_waitRecv st K c (nth 1)) $$ [Hq1 HO]
  · isplitr; · iexact HP
    unfold recvToks
    icases Hq1 with ⟨Hq, Hb⟩
    isplitl [Hq]; · iexact Hq
    isplitl [Hb] <;> iassumption
  iintro ⟨Hw1, Hz1, HO⟩
  sl_exec
  iapply (step_waitSend st K c (nth 0)) $$ [Hc0 Ha0 HO]
  · isplitr; · iexact HP
    isplitl [Hc0]; · iexact Hc0
    isplitl [Ha0] <;> iassumption
  iintro ⟨Hv0, Hp0, HO⟩
  sl_exec
  rw [wp_ret]; imodintro
  iapply Hk
  unfold midPost recvLeft
  rw [seven fun j => semVal (sendCell c j) 0, seven fun j => sendPay st c j]
  isplitl [Hv6 Hv5 Hv4 Hv3 Hv2 Hv1 Hv0]
  · isplitl [Hv6]; · iexact Hv6
    isplitl [Hv5]; · iexact Hv5
    isplitl [Hv4]; · iexact Hv4
    isplitl [Hv3]; · iexact Hv3
    isplitl [Hv2]; · iexact Hv2
    isplitl [Hv1]; · iexact Hv1
    iexact Hv0
  isplitl [Hp6 Hp5 Hp4 Hp3 Hp2 Hp1 Hp0]
  · isplitl [Hp6]; · iexact Hp6
    isplitl [Hp5]; · iexact Hp5
    isplitl [Hp4]; · iexact Hp4
    isplitl [Hp3]; · iexact Hp3
    isplitl [Hp2]; · iexact Hp2
    isplitl [Hp1]; · iexact Hp1
    iexact Hp0
  isplitr [HO]
  · isplitl [Hw6 Hz6]
    · isplitl [Hw6] <;> iassumption
    isplitl [Hw5 Hz5]
    · isplitl [Hw5] <;> iassumption
    isplitl [Hw4 Hz4]
    · isplitl [Hw4] <;> iassumption
    isplitl [Hw3 Hz3]
    · isplitl [Hw3] <;> iassumption
    isplitl [Hw2 Hz2]
    · isplitl [Hw2] <;> iassumption
    isplitl [Hw1] <;> iassumption
  iexact HO

end Cert.KernelIdeal.Proto
end
-- ==== Proof.Result.lean ====
module

public import proofs.«01_k».proof.Proof.Mid

/-!
# The result rows as the body writes them
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

variable (st : Dev nD → S16x128.Idx → Elt F .f32)

abbrev oPts (c : Dev nD) (f : oM.view.ty.Contents (Elt F)) : sProp 𝕄 := oM.view.loc (c : Thread nD τ) ↦{fullShare} f

/-- What a load of slot `n` of `c`'s filled buffer reads. -/
def slotVec (c : Dev nD) (n : ℕ) : Vec F S1x16x128 .f32 := fun y => st (back c n) (fun a => y a.succ)

abbrev slotRect (n : ℕ) (h : n < 8) : Rect S8x16x128 := Rect.unit (s := S8x16x128) ![n, 0, 0] S1x16x128.size (slot_inb h)

theorem slot_load (c : Dev nD) (n : ℕ) (h : n < 8) :
    cM.view.readAt (Elt F) (slotRect n h).toLoadRect (commOf st c) = slotVec st c n := by
  funext y
  have hy : (y 0).val < 1 := (y 0).isLt
  have e0 : ((slotRect n h).toLoadRect.idx y 0).val = n := by show n + 1 * (y 0).val = n; omega
  show st (back c ((slotRect n h).toLoadRect.idx y 0).val) (tailIdx ((slotRect n h).toLoadRect.idx y)) = _
  rw [e0]
  unfold slotVec
  congr 1
  funext a
  apply Fin.ext
  fin_cases a
  · show 0 + 1 * (y 1).val = (y 1).val; omega
  · show 0 + 1 * (y 2).val = (y 2).val; omega

theorem row_load (fx : xvM.view.ty.Contents (Elt F)) (k : ℕ) (h : k < 4) :
    xvM.view.readAt (Elt F) (rowRect k h).toLoadRect fx = rows k h fx := by
  funext i
  show fx ((rowRect k h).emb i) = _
  rw [rowRect_emb]; rfl

theorem zeros : (![0, 0] : Fin 2 → ℕ) = fun _ => 0 := by decide

/-- The four blocks of result rows, from the eight slots `s`, the four row blocks `x`, and the two parameter rows. -/
def blockOf (s : Fin 8 → Vec F S1x16x128 .f32) (x : Fin 4 → Vec F S256x512 .f32) (g b : Vec F S1x512 .f32) : Fin 4 → FVec F S256x512 .f32 :=
  let p := k0_pay11 (s 0) (s 1) (s 2) (s 3) (s 4) (s 5) (s 6)
  let t := k0_pay12 p (s 7)
  ![k0_pay13 p (s 7) (x 0) g b, k0_pay16 t (k0_pay14 p (s 7)) k0_pay15 (x 1) g b, k0_pay20 (k0_pay17 t) (k0_pay18 t) (k0_pay19 t) (x 2) g b,
    k0_pay23 (k0_pay21 t) (k0_pay22 t) (x 3) g b]

/-- Block `k` of device `c`'s result. -/
def resBlock (c : Dev nD) (fx : S1024x512.Idx → Elt F .f32) (g b : S1x512.Idx → Elt F .f32) : Fin 4 → FVec F S256x512 .f32 :=
  blockOf (fun n => slotVec st c n.val) (fun k => rows k.val k.isLt fx) g b

theorem resBlock_loads (c : Dev nD) (fx : xvM.view.ty.Contents (Elt F)) (fg : gM.view.ty.Contents (Elt F)) (fb : bM.view.ty.Contents (Elt F)) :
    blockOf (fun n => cM.view.readAt (Elt F) (slotRect n.val n.isLt).toLoadRect (commOf st c)) (fun k => xvM.view.readAt (Elt F) (rowRect k.val k.isLt).toLoadRect fx)
        (gM.view.readAt (Elt F) (Rect.unit (s := S1x512) ![0, 0] S1x512.size Facts₀.inb_S1x512_S1x512_0_0).toLoadRect fg)
        (bM.view.readAt (Elt F) (Rect.unit (s := S1x512) ![0, 0] S1x512.size Facts₀.inb_S1x512_S1x512_0_0).toLoadRect fb)
      = resBlock st c fx fg fb := by
  have hs : (fun n : Fin 8 => cM.view.readAt (Elt F) (slotRect n.val n.isLt).toLoadRect (commOf st c)) = fun n => slotVec st c n.val :=
    funext fun n => slot_load st c n.val n.isLt
  have hx : (fun k : Fin 4 => xvM.view.readAt (Elt F) (rowRect k.val k.isLt).toLoadRect fx) = fun k => rows k.val k.isLt fx :=
    funext fun k => row_load fx k.val k.isLt
  have hg := Memref.readAt_unit_zero (Elt F) cc0_stg0_0 zeros Facts₀.inb_S1x512_S1x512_0_0 fg
  have hb := Memref.readAt_unit_zero (Elt F) cc0_stg1_0 zeros Facts₀.inb_S1x512_S1x512_0_0 fb
  unfold resBlock
  exact congr (congr (congr (congrArg blockOf hs) hx) hg) hb

/-- Device `c`'s result. -/
def outOf (c : Dev nD) (fx : S1024x512.Idx → Elt F .f32) (g b : S1x512.Idx → Elt F .f32) : S1024x512.Idx → Elt F .f32 := fun i =>
  resBlock st c fx g b (⟨(i 0).val / 256, by have : (i 0).val < 1024 := (i 0).isLt; omega⟩ : Fin 4)
    (Fin.cons (⟨(i 0).val % 256, Nat.mod_lt _ (by decide)⟩ : Fin 256) (fun a => i a.succ) : S256x512.Idx)

theorem outOf_row (c : Dev nD) (fx : S1024x512.Idx → Elt F .f32) (g b : S1x512.Idx → Elt F .f32) (k : ℕ) (h : k < 4) (y : S256x512.Idx) :
    outOf st c fx g b (rowIdx k h y) = resBlock st c fx g b ⟨k, h⟩ y := by
  have hy : (y 0).val < 256 := (y 0).isLt
  have e0 : ((rowIdx k h y) 0).val = 256 * k + (y 0).val := rfl
  unfold outOf
  refine congr (congrArg _ (Fin.ext ?_)) (funext fun a => Fin.ext ?_)
  · show ((rowIdx k h y) 0).val / 256 = k; omega
  · fin_cases a
    · show ((rowIdx k h y) 0).val % 256 = (y 0).val; omega
    · rfl

/-- A slice read where the last store went is that store's payload. -/
theorem ov_hit (fo : ovM.view.ty.Contents (Elt F)) (k : ℕ) (h : k < 4) (hs : ∀ a, (rowRect k h).stride a = 1) (w w' : S256x512.Idx → Elt F .f32)
    (Ls : List (View.Piece (Elt F) S1024x512 .f32)) (hw : w = w') :
    ReadAs.same.apply (View.read (Elt F) (ovM.slice (rowRect k h) hs).view (ovM.view.writes (Elt F) fo (⟨rowRect k h, w⟩ :: Ls))) = w' :=
  (funext fun x => View.read_writes_cons_hit ovM.view fo (rowRect k h) w Ls x _ rfl).trans hw

abbrev outPiece (d : Fin 4 → FVec F S256x512 .f32) (k : ℕ) (h : k < 4) : View.Piece (Elt F) S1024x512 .f32 := ⟨rowRect k h, d ⟨k, h⟩⟩

/-- The four copies out, last first. -/
def outPieces (d : Fin 4 → FVec F S256x512 .f32) : List (View.Piece (Elt F) S1024x512 .f32) :=
  [outPiece d 3 (by decide), outPiece d 2 (by decide), outPiece d 1 (by decide), outPiece d 0 (by decide)]

theorem mem_outPieces (d : Fin 4 → FVec F S256x512 .f32) : ∀ (k : ℕ) (h : k < 4), outPiece d k h ∈ outPieces d
  | 0, _ => .tail _ (.tail _ (.tail _ (.head _)))
  | 1, _ => .tail _ (.tail _ (.head _))
  | 2, _ => .tail _ (.head _)
  | 3, _ => .head _

theorem outPiece_val (c : Dev nD) (fx : S1024x512.Idx → Elt F .f32) (g b : S1x512.Idx → Elt F .f32) (k : ℕ) (h : k < 4)
    (x : (outPiece (resBlock st c fx g b) k h).1.shape.Idx) :
    (outPiece (resBlock st c fx g b) k h).2 x = outOf st c fx g b ((outPiece (resBlock st c fx g b) k h).1.emb x) := by
  show resBlock st c fx g b ⟨k, h⟩ x = outOf st c fx g b ((rowRect k h).emb x)
  rw [rowRect_emb, outOf_row]

theorem outPieces_read {κ : Kind} {sp : Space} (v : View sig κ sp S1024x512 .f32) (f : v.ty.Contents (Elt F)) (c : Dev nD)
    (fx : S1024x512.Idx → Elt F .f32) (g b : S1x512.Idx → Elt F .f32) :
    v.read (Elt F) (v.writes (Elt F) f (outPieces (resBlock st c fx g b))) = outOf st c fx g b := by
  funext y
  have hy : (y 0).val < 1024 := (y 0).isLt
  have hk : (y 0).val / 256 < 4 := by omega
  refine View.read_writes_apply_of_pieces v f (outOf st c fx g b) (outPieces (resBlock st c fx g b)) ?_ y
    ⟨outPiece _ ((y 0).val / 256) hk, mem_outPieces _ _ hk, row_mem y _ hk ⟨by omega, by omega⟩⟩
  exact List.forall_mem_cons.mpr ⟨outPiece_val st c fx g b 3 _, List.forall_mem_cons.mpr ⟨outPiece_val st c fx g b 2 _,
    List.forall_mem_cons.mpr ⟨outPiece_val st c fx g b 1 _, List.forall_mem_cons.mpr ⟨outPiece_val st c fx g b 0 _, fun _ h => nomatch h⟩⟩⟩⟩

/-- The result buffer once the four copies have landed over `fr`. -/
def outLanded (fr : oM.view.ty.Contents (Elt F)) (d : Fin 4 → FVec F S256x512 .f32) : oM.view.ty.Contents (Elt F) :=
  oM.view.writes (Elt F) fr (outPieces d)

theorem read_o (g : oM.view.ty.Contents (Elt F)) : oM.view.read (Elt F) g = g := rfl

theorem outLanded_eq (fr : oM.view.ty.Contents (Elt F)) (c : Dev nD) (fx : S1024x512.Idx → Elt F .f32) (g b : S1x512.Idx → Elt F .f32) :
    outLanded fr (resBlock st c fx g b) = outOf st c fx g b := by
  rw [← read_o (outLanded fr _)]
  unfold outLanded
  exact outPieces_read st oM.view fr c fx g b

/-- The same with the four payloads named one by one. -/
def outLanded4 (fr : oM.view.ty.Contents (Elt F)) (d0 d1 d2 d3 : FVec F S256x512 .f32) : oM.view.ty.Contents (Elt F) :=
  oM.view.writes (Elt F) fr [⟨rowRect 3 (by decide), d3⟩, ⟨rowRect 2 (by decide), d2⟩, ⟨rowRect 1 (by decide), d1⟩, ⟨rowRect 0 (by decide), d0⟩]

theorem outLanded4_eq (fr : oM.view.ty.Contents (Elt F)) (d : Fin 4 → FVec F S256x512 .f32) : outLanded4 fr (d 0) (d 1) (d 2) (d 3) = outLanded fr d := rfl

theorem o_done (c : Dev nD) (fx : S1024x512.Idx → Elt F .f32) (g b : S1x512.Idx → Elt F .f32) (fr r : oM.view.ty.Contents (Elt F))
    (d0 d1 d2 d3 : FVec F S256x512 .f32) (h0 : d0 = resBlock st c fx g b 0) (h1 : d1 = resBlock st c fx g b 1)
    (h2 : d2 = resBlock st c fx g b 2) (h3 : d3 = resBlock st c fx g b 3) (hr : r = outLanded4 fr d0 d1 d2 d3) : oPts c r ⊢ oPts c (outOf st c fx g b) := by
  subst hr h0 h1 h2 h3
  rw [outLanded4_eq, outLanded_eq]

end Cert.KernelIdeal.Proto
end
-- ==== Proof.Back.lean ====
module

public import proofs.«01_k».proof.Proof.Result
public import Idealize.ShloMosaic.Lib.Ring

/-!
# The body's last part

The last landing is waited for, the eight slots are added up, and the normalised rows go out block by block.
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

variable (st : Dev nD → S16x128.Idx → Elt F .f32)

/-- The whole statistics buffer of `c` at contents `f`. -/
abbrev commPts (c : Dev nD) (f : cM.view.ty.Contents (Elt F)) : sProp 𝕄 := cM.view.loc (c : Thread nD τ) ↦{fullShare} f

/-- It is slot 0 and the other seven. -/
theorem comm_slots (c : Dev nD) (f : cM.view.ty.Contents (Elt F)) :
    commPts c f = iprop(slotPts c 0 zlt fullShare f ∗ bigSep Finset.univ fun j : Fin 7 => slotPts c (j.val + 1) (jlt j) fullShare f) := by
  have h := Ring.pointsTo_blocks (Ix := Unit) (Val := Elt F) (Name := ℕ) (U := UU) (Lvl := ℕ) (ℓ := cM.view.loc (c : Thread nD τ)) (q := fullShare)
    (fun n : Fin 8 => (slotM n.val n.isLt).view.set)
    (fun a b hab => Finset.disjoint_left.mpr fun i ha hb => hab (Fin.ext (((mem_slot _ _ i).mp ha).symm.trans ((mem_slot _ _ i).mp hb))))
    (Finset.eq_univ_iff_forall.mpr fun i => Finset.mem_biUnion.mpr ⟨⟨(i 0).val, (i 0).isLt⟩, Finset.mem_univ _, (mem_slot _ _ i).mpr rfl⟩) f
  refine h.trans ?_
  rw [Fin.univ_succ, Finset.cons_eq_insert, bigSep_insert (by simp [Fin.succ_ne_zero]), bigSep_map]
  rfl

/-- The four cells of the stores, at rest. -/
def storeCells (c : Dev nD) : sProp 𝕄 :=
  iprop(semVal (dmaCell c 6 (by decide)) 0 ∗ semVal (dmaCell c 7 (by decide)) 0 ∗ semVal (dmaCell c 8 (by decide)) 0 ∗ semVal (dmaCell c 9 (by decide)) 0)

abbrev gPts (c : Dev nD) (f : gM.view.ty.Contents (Elt F)) : sProp 𝕄 := gM.view.loc (c : Thread nD τ) ↦{fullShare} f
abbrev bPts (c : Dev nD) (f : bM.view.ty.Contents (Elt F)) : sProp 𝕄 := bM.view.loc (c : Thread nD τ) ↦{fullShare} f
abbrev ovPts (c : Dev nD) (f : ovM.view.ty.Contents (Elt F)) : sProp 𝕄 := ovM.view.loc (c : Thread nD τ) ↦{fullShare} f

/-- What the whole body leaves beside the result: every cell at rest, every buffer. -/
def backPost (c : Dev nD) (fx : xvM.view.ty.Contents (Elt F)) (fg : gM.view.ty.Contents (Elt F)) (fb : bM.view.ty.Contents (Elt F)) : sProp 𝕄 :=
  iprop((bigSep Finset.univ fun j => semVal (sendCell c j) 0) ∗ (bigSep Finset.univ fun j => semVal (recvCell c j) 0) ∗ storeCells c ∗ owing c 0
    ∗ commPts c (commOf st c) ∗ xvPts c fx ∗ gPts c fg ∗ bPts c fb ∗ (∃ f, ovPts c f) ∗ oPts c (outOf st c fx fg fb))

set_option sl_exec.dmaWindow true in
set_option maxHeartbeats 4000000 in
theorem backRun (K : GSem nD τ sig → ℕ) (c : Dev nD) (v185 : BitVec 32) (fx : xvM.view.ty.Contents (Elt F)) (fg : gM.view.ty.Contents (Elt F))
    (fb : bM.view.ty.Contents (Elt F)) (fo : ovM.view.ty.Contents (Elt F)) (fr : oM.view.ty.Contents (Elt F)) (Kt : PUnit → sProp 𝕄) :
    iprop(pctx st K c ∗ midPost st c ∗ slotRest st c ∗ recvToks c (nth 0) ∗ storeCells c ∗ xvPts c fx ∗ gPts c fg ∗ bPts c fb ∗ ovPts c fo ∗ oPts c fr
        ∗ (backPost st c fx fg fb -∗ Kt ⟨⟩))
      ⊢ wp frame (wpE (defs₀ (F := F)) 𝒱₀ (c : Thread nD τ) none) Set.univ (backProg (F := F) v185) Kt := by
  unfold backProg storeCells midPost recvToks recvLeft
  iintro ⟨#HP, ⟨Hsv, Hsp, ⟨⟨Hw6, Hz6⟩, ⟨Hw5, Hz5⟩, ⟨Hw4, Hz4⟩, ⟨Hw3, Hz3⟩, ⟨Hw2, Hz2⟩, ⟨Hw1, Hz1⟩⟩, HO⟩, Hrest, ⟨Hq, Hat⟩, ⟨Hl0, Hl1, Hl2, Hl3⟩, Hx, Hg, Hb, Ho, Hr, Hk⟩
  sl_exec
  iapply (step_waitRecv st K c (nth 0)) $$ [Hq Hat HO]
  · isplitr; · iexact HP
    isplitl [Hq]; · iexact Hq
    isplitl [Hat] <;> iassumption
  iintro ⟨Hw0, Hz0, HO⟩
  ihave Hc := (undeal st c) $$ [Hrest Hsp]
  · isplitl [Hrest] <;> iassumption
  ihave Hz := (Entails.of_eq (seven fun j => recvPay st c j).symm) $$ [Hz0 Hz1 Hz2 Hz3 Hz4 Hz5 Hz6]
  · isplitl [Hz6]; · iexact Hz6
    isplitl [Hz5]; · iexact Hz5
    isplitl [Hz4]; · iexact Hz4
    isplitl [Hz3]; · iexact Hz3
    isplitl [Hz2]; · iexact Hz2
    isplitl [Hz1]; · iexact Hz1
    iexact Hz0
  ihave Hc := (Entails.of_eq (comm_slots c (commOf st c)).symm) $$ [Hc Hz]
  · isplitl [Hc]; · iexact Hc
    iexact Hz
  have hmw0 := mayWait_low (F := F) c 0 (.dma ⟨6, by decide⟩) (by decide)
  have hmw1 := mayWait_low (F := F) c 0 (.dma ⟨7, by decide⟩) (by decide)
  have hmw2 := mayWait_low (F := F) c 0 (.dma ⟨8, by decide⟩) (by decide)
  have hmw3 := mayWait_low (F := F) c 0 (.dma ⟨9, by decide⟩) (by decide)
  rw [dueSend] at hmw0 hmw1 hmw2 hmw3
  unfold owing
  icases HO with ⟨%W, HO⟩
  ihave #Hlev := (pctx_lev st K c) $$ HP
  sl_exec
  have hd0 : backRun.sl.dma13 st c fx fg fb fo = resBlock st c fx fg fb 0 := by
    unfold backRun.sl.dma13 backRun.sl.Ho_1
    refine ov_hit fo 0 (by decide) _ _ _ _ ?_
    rw [← resBlock_loads]
    rfl
  have hd1 : backRun.sl.dma18 st c fx fg fb fo = resBlock st c fx fg fb 1 := by
    unfold backRun.sl.dma18 backRun.sl.Ho_2
    refine ov_hit fo 1 (by decide) _ _ _ _ ?_
    rw [← resBlock_loads]
    rfl
  have hd2 : backRun.sl.dma23 st c fx fg fb fo = resBlock st c fx fg fb 2 := by
    unfold backRun.sl.dma23 backRun.sl.Ho_3
    refine ov_hit fo 2 (by decide) _ _ _ _ ?_
    rw [← resBlock_loads]
    rfl
  have hd3 : backRun.sl.dma28 st c fx fg fb fo = resBlock st c fx fg fb 3 := by
    unfold backRun.sl.dma28 backRun.sl.Ho_4
    refine ov_hit fo 3 (by decide) _ _ _ _ ?_
    rw [← resBlock_loads]
    rfl
  ihave Hr := (o_done st c fx fg fb fr (oM.view.writes (Elt F) fr [⟨rowRect 3 (by decide), backRun.sl.dma28 st c fx fg fb fo⟩,
    ⟨rowRect 2 (by decide), backRun.sl.dma23 st c fx fg fb fo⟩, ⟨rowRect 1 (by decide), backRun.sl.dma18 st c fx fg fb fo⟩,
    ⟨rowRect 0 (by decide), backRun.sl.dma13 st c fx fg fb fo⟩]) _ _ _ _ hd0 hd1 hd2 hd3 rfl) $$ Hr
  rw [wp_ret]; imodintro
  iapply Hk
  unfold backPost storeCells
  rw [seven fun j => semVal (recvCell c j) 0]
  isplitl [Hsv]; · iexact Hsv
  isplitl [Hw6 Hw5 Hw4 Hw3 Hw2 Hw1 Hw0]
  · isplitl [Hw6]; · iexact Hw6
    isplitl [Hw5]; · iexact Hw5
    isplitl [Hw4]; · iexact Hw4
    isplitl [Hw3]; · iexact Hw3
    isplitl [Hw2]; · iexact Hw2
    isplitl [Hw1]; · iexact Hw1
    iexact Hw0
  isplitl [Hl0 Hl1 Hl2 Hl3]
  · isplitl [Hl0]; · iexact Hl0
    isplitl [Hl1]; · iexact Hl1
    isplitl [Hl2]; · iexact Hl2
    iexact Hl3
  isplitl [HO]; · unfold owing; iexists _; iexact HO
  isplitl [Hc]; · iexact Hc
  isplitl [Hx]; · iexact Hx
  isplitl [Hg]; · iexact Hg
  isplitl [Hb]; · iexact Hb
  isplitl [Ho]; · iexists _; iexact Ho
  iexact Hr

end Cert.KernelIdeal.Proto
end
-- ==== Proof.Body.lean ====
module

public import proofs.«01_k».proof.Proof.Back

/-!
# The whole body
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

variable (st : Dev nD → S16x128.Idx → Elt F .f32)

/-- What the body leaves. -/
def bodyPost (c : Dev nD) (fx : S1024x512.Idx → Elt F .f32) (fg : gM.view.ty.Contents (Elt F)) (fb : bM.view.ty.Contents (Elt F)) : sProp 𝕄 :=
  iprop(backPost st c fx fg fb ∗ semVal (barCell c) 0 ∗ loadCells c ∗ xPts c fx)

set_option maxHeartbeats 1000000 in
theorem bodyRun (K : GSem nD τ sig → ℕ) (c : Dev nD) (fx : (main_arg0 : Ref sig .tc).ty.Contents (Elt F)) (hst : st c = statsOf fx)
    (fv : (cc0_scratch0 : Ref sig .tc).ty.Contents (Elt F)) (fc : cM.view.ty.Contents (Elt F)) (fg : gM.view.ty.Contents (Elt F))
    (fb : bM.view.ty.Contents (Elt F)) (fo : ovM.view.ty.Contents (Elt F)) (fr : oM.view.ty.Contents (Elt F)) (Kt : PUnit → sProp 𝕄) :
    iprop(pctx st K c ∗ ((bigSep Finset.univ fun j => sigRes c j) ∗ (bigSep Finset.univ fun j => copyToks c j)
        ∗ cred (tallyAt (barCell c) () 7) ∗ atPos ER (barCell c) 0 ∅ 0
        ∗ (bigSep Finset.univ fun j => atPos ER (sendCell c j) 0 ∅ 0) ∗ (bigSep Finset.univ fun j => recvToks c j))
        ∗ owing c (dueAll c 7) ∗ loadCells c ∗ storeCells c ∗ xPts c fx ∗ xvPts c fv ∗ slotPts c 0 zlt fullShare fc
        ∗ gPts c fg ∗ bPts c fb ∗ ovPts c fo ∗ oPts c fr ∗ (bodyPost st c fx fg fb -∗ Kt ⟨⟩))
      ⊢ wp frame (wpE (defs₀ (F := F)) 𝒱₀ (c : Thread nD τ) none) Set.univ (cc0_body (F := F) (Memref.whole main_arg0) (Memref.isWhole_whole _) (Memref.whole cc0_stg0_0) (Memref.isWhole_whole _) (Memref.whole cc0_stg1_0) (Memref.isWhole_whole _) (Memref.whole main_v3) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [body_eq]
  show _ ⊢ wp frame (wpE (defs₀ (F := F)) 𝒱₀ (c : Thread nD τ) none) Set.univ (frontProg >>= fun r => midProg r.1 r.2.1 r.2.2.1 r.2.2.2 >>= backProg) Kt
  rw [wp_bind, seven fun j => recvToks c j]
  iintro ⟨#HP, ⟨Hsig, Htok, Hcb, Hab, Hpos, Hq6, Hq5, Hq4, Hq3, Hq2, Hq1, Hq0⟩, HO, Hl, Hs, Hx, Hv, Hc, Hg, Hb, Ho, Hr, Hk⟩
  iapply (frontRun st K c fx hst fv fc _)
  isplitr; · iexact HP
  isplitl [Hsig]; · iexact Hsig
  isplitl [Htok]; · iexact Htok
  isplitl [Hcb]; · iexact Hcb
  isplitl [Hab]; · iexact Hab
  isplitl [HO]; · iexact HO
  isplitl [Hl]; · iexact Hl
  isplitl [Hx]; · iexact Hx
  isplitl [Hv]; · iexact Hv
  isplitl [Hc]; · iexact Hc
  iintro %v2 %v113 %v125 HF
  unfold frontPost
  icases HF with ⟨Hsent, Hres, Hrest, Hbar, Hl, Hx, Hv⟩
  dsimp only
  rw [wp_bind]
  iapply (midRun st K c v2 v113 v125 _)
  isplitr; · iexact HP
  isplitl [Hsent]; · iexact Hsent
  isplitl [Hres]; · iexact Hres
  isplitl [Hpos]; · iexact Hpos
  isplitl [Hq6 Hq5 Hq4 Hq3 Hq2 Hq1]
  · isplitl [Hq6]; · iexact Hq6
    isplitl [Hq5]; · iexact Hq5
    isplitl [Hq4]; · iexact Hq4
    isplitl [Hq3]; · iexact Hq3
    isplitl [Hq2]; · iexact Hq2
    iexact Hq1
  iintro %v HM
  iapply (backRun st K c v fx fg fb fo fr Kt)
  isplitr; · iexact HP
  isplitl [HM]; · iexact HM
  isplitl [Hrest]; · iexact Hrest
  isplitl [Hq0]; · iexact Hq0
  isplitl [Hs]; · iexact Hs
  isplitl [Hv]; · iexact Hv
  isplitl [Hg]; · iexact Hg
  isplitl [Hb]; · iexact Hb
  isplitl [Ho]; · iexact Ho
  isplitl [Hr]; · iexact Hr
  iintro HB
  iapply Hk
  unfold bodyPost
  isplitl [HB]; · iexact HB
  isplitl [Hbar]; · iexact Hbar
  isplitl [Hl]; · iexact Hl
  iexact Hx

end Cert.KernelIdeal.Proto
end
-- ==== Proof.Region.lean ====
module

public import proofs.«01_k».proof.Proof.Body

/-!
# The kernel's region

What a device holds when the kernel starts, what the body's invariant is before and after its one point, and the region's
record: the cells of the exchange are opened on the way in and are all back at zero on the way out.
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)

namespace Cert.KernelIdeal.Proto

open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Contents -/

/-- Device `c`'s block of `x` as launched. -/
def xOf (c : Dev nD) : S1024x512.Idx → Elt F .f32 := m ((c : Thread nD τ).loc main_arg0)
/-- The statistics of each device's rows. -/
def stOf (c : Dev nD) : S16x128.Idx → Elt F .f32 := statsOf (xOf m c)
/-- The scale and the offset the body finds staged. -/
def gOf (c : Dev nD) : gM.view.ty.Contents (Elt F) := iblk m c 0 t0_0
def bOf (c : Dev nD) : bM.view.ty.Contents (Elt F) := iblk m c 1 t0_0
/-- The result of device `c`. -/
def resOf (c : Dev nD) : oM.view.ty.Contents (Elt F) := outOf (stOf m) c (xOf m c) (gOf m c) (bOf m c)

/-- The buffers as launched, after the two reshapes, and after the kernel. -/
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := Function.update (V₁ m c) (Proc.devRef .tc main_v3) (resOf m c)

/-! ## Buffers -/

abbrev pt (c : Dev nD) (b : Ref sig .tc) (f : b.ty.Contents (Elt F)) : sProp 𝕄 := (Memref.whole b).view.loc (c : Thread nD τ) ↦{fullShare} f

/-- The unscoped buffers. -/
def bufs : Finset (DevRef τ sig) := (StableHlo.tcRefs τ sig).filter fun b => ¬ b.isScoped
/-- Those of them no window stages. -/
def rest : Finset (DevRef τ sig) := {Proc.devRef .tc main_arg0, Proc.devRef .tc main_arg1, Proc.devRef .tc main_arg2, Proc.devRef .tc main_v3}

theorem bufs_split (c : Dev nD) (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) rest W) := by
  have hs : Pipeline.arrRefs (τ := τ) spec0 ⊆ bufs := by decide
  have hr : (bufs : Finset (DevRef τ sig)) \ Pipeline.arrRefs (τ := τ) spec0 = rest := by decide
  rw [StableHlo.held_sub_split (c : Thread nD τ) hs W, hr]

theorem rest_eq (c : Dev nD) (W : Valuation τ sig (Elt F)) : (StableHlo.held (c : Thread nD τ) rest W : sProp 𝕄)
    = iprop(pt c main_arg0 (W main_arg0) ∗ pt c main_arg1 (W main_arg1) ∗ pt c main_arg2 (W main_arg2) ∗ pt c main_v3 (W main_v3)) := by
  unfold StableHlo.held
  rw [bigSep_eq_bigSepL_of_eq [Proc.devRef .tc main_arg0, Proc.devRef .tc main_arg1, Proc.devRef .tc main_arg2, Proc.devRef .tc main_v3] (by decide) (by decide)]
  rfl

theorem V₂_res (c : Dev nD) : V₂ m c main_v3 = resOf m c := Function.update_self ..
theorem V₂_other (c : Dev nD) (b : DevRef τ sig) (h : b ≠ Proc.devRef .tc main_v3) : V₂ m c b = V₁ m c b := Function.update_of_ne h ..

/-- The three scratch buffers at contents not chosen. -/
def scr (c : Dev nD) : sProp 𝕄 := iprop((∃ f, xvPts c f) ∗ (∃ f, ovPts c f) ∗ (∃ f, commPts c f))

/-! ## The device's own cells -/

/-- The kernel's cells: of the loads and stores, of the sends, of the receives. -/
def osem : Fin 8 ⊕ (Fin 7 ⊕ Fin 7) → SemLoc sig
  | .inl i => .dma ⟨2 + i.val, by have := i.isLt; show 2 + i.val < 26; omega⟩
  | .inr (.inl j) => .dma (sendJ j)
  | .inr (.inr j) => .dma (recvJ j)

theorem ownSems_eq (c : Dev nD) : (Pipeline.ownSems0 osem c : sProp 𝕄)
    = iprop((loadCells c ∗ storeCells c) ∗ (bigSep Finset.univ fun j => semVal (sendCell c j) 0) ∗ bigSep Finset.univ fun j => semVal (recvCell c j) 0) := by
  have h8 : (bigSep Finset.univ fun i : Fin 8 => (semVal ((c : Thread nD τ), osem (.inl i)) 0 : sProp 𝕄)) = iprop(loadCells c ∗ storeCells c) := by
    rw [bigSep_univ_eq_bigSepL [(0 : Fin 8), 1, 2, 3, 4, 5, 6, 7] (by decide) (by decide)]
    have ha : ∀ P Q R : sProp 𝕄, iprop((P ∗ Q) ∗ R) = iprop(P ∗ Q ∗ R) := fun _ _ _ => Entails.antisymm BI.sep_assoc BI.sep_assoc'
    unfold loadCells storeCells
    rw [ha, ha, ha]
    rfl
  unfold Pipeline.ownSems0
  rw [bigSep_univ_sum, bigSep_univ_sum, h8]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## From the launch to the body -/

/-- Every cell's invariant, and that every barrier cell is ready. -/
def records (K : GSem nD τ sig → ℕ) : sProp 𝕄 :=
  iprop((bigSep Finset.univ fun d => cellInv ER (Rd (stOf m)) (K (barCell d)) (barCell d))
    ∗ (bigSep Finset.univ fun p : Dev nD × Fin 7 => cellInv ER (Rd (stOf m)) (K (sendCell p.1 p.2)) (sendCell p.1 p.2))
    ∗ (bigSep Finset.univ fun p : Dev nD × Fin 7 => cellInv ER (Rd (stOf m)) (K (recvCell p.1 p.2)) (recvCell p.1 p.2))
    ∗ (bigSep Finset.univ fun d => reached ER (barCell d) 0))

instance records_persistent (K : GSem nD τ sig → ℕ) : BI.Persistent (records m K) := by unfold records; infer_instance

/-- The token of the barrier duty that device `c` pays with its signal `j`. -/
def sigTok (c : Dev nD) (j : Fin 7) : sProp 𝕄 := dutyTok ER (barCell (fwd c j)) 0 j.rev
/-- The credits device `c` draws on. -/
def credits (c : Dev nD) : sProp 𝕄 :=
  iprop(cred (tallyAt (barCell c) () 7) ∗ bigSep Finset.univ fun j => cred (tallyAt (recvCell c j) () N))
/-- What device `c` alone holds: its barrier position, the rights to open its cells, the tokens it pays with. -/
def linear (c : Dev nD) : sProp 𝕄 :=
  iprop(atPos ER (barCell c) 0 ∅ 0 ∗ (bigSep Finset.univ fun j => openTok ER (sendCell c j)) ∗ (bigSep Finset.univ fun j => openTok ER (recvCell c j))
    ∗ (bigSep Finset.univ fun j => sigTok c j) ∗ bigSep Finset.univ fun j => copyToks c j)

/-- From launch to the region, and inside it before the body. -/
def Tk (c : Dev nD) : sProp 𝕄 := iprop((∃ K, records m K ∗ linear c) ∗ credits c)
def Xk (c : Dev nD) : sProp 𝕄 :=
  iprop(∃ K, pctx (stOf m) K c ∗ (bigSep Finset.univ fun j => sigTok c j) ∗ (bigSep Finset.univ fun j => copyToks c j)
    ∗ cred (tallyAt (barCell c) () 7) ∗ atPos ER (barCell c) 0 ∅ 0
    ∗ (bigSep Finset.univ fun j => atPos ER (sendCell c j) 0 ∅ 0) ∗ (bigSep Finset.univ fun j => recvToks c j) ∗ loadCells c ∗ storeCells c)

/-- Two families as one of pairs, and back. -/
theorem pair_up {I : Type} [Fintype I] {Φ Ψ : I → sProp 𝕄} :
    iprop(bigSep Finset.univ Φ ∗ bigSep Finset.univ Ψ) ⊢ bigSep Finset.univ fun i => iprop(Φ i ∗ Ψ i) := Entails.of_eq (bigSep_sep' _ _ _).symm
theorem pair_down {I : Type} [Fintype I] {Φ Ψ : I → sProp 𝕄} :
    (bigSep Finset.univ fun i => iprop(Φ i ∗ Ψ i)) ⊢ iprop(bigSep Finset.univ Φ ∗ bigSep Finset.univ Ψ) := Entails.of_eq (bigSep_sep' _ _ _)

/-- An update of each of a family, beside something kept. -/
theorem fupd_all {I : Type} [DecidableEq I] (s : Finset I) (R : sProp 𝕄) [BI.Persistent R] (Φ Ψ : I → sProp 𝕄)
    (h : ∀ i, iprop(R ∗ Φ i) ⊢ |={Set.univ}=> Ψ i) : iprop(R ∗ bigSep s Φ) ⊢ |={Set.univ}=> bigSep s Ψ := by
  induction s using Finset.induction_on with
  | empty =>
    rw [bigSep_empty, bigSep_empty]
    iintro ⟨-, H⟩; imodintro; iexact H
  | insert a s ha ih =>
    have e : ∀ Θ : I → sProp 𝕄, bigSep (insert a s) Θ = iprop(Θ a ∗ bigSep s Θ) := fun Θ => bigSep_insert ha
    rw [e, e]
    iintro ⟨#HR, Ha, Hs⟩
    imod (h a) $$ [Ha] with Ha'
    · isplitr; · iexact HR
      iexact Ha
    imod ih $$ [Hs] with Hs'
    · isplitr; · iexact HR
      iexact Hs
    imodintro
    isplitl [Ha']; · iexact Ha'
    iexact Hs'

section Open
variable (K : GSem nD τ sig → ℕ) (c : Dev nD)

theorem open_send (j : Fin 7) : iprop(records m K ∗ (openTok ER (sendCell c j) ∗ semVal (sendCell c j) 0))
    ⊢ |={Set.univ}=> (iprop(atPos ER (sendCell c j) 0 ∅ 0 ∗ reached ER (sendCell c j) 0) : sProp 𝕄) := by
  unfold records
  iintro ⟨⟨-, #HS, -⟩, Ho, Hv⟩
  iapply (Rounds.cell_open ER (Rd (stOf m)) (g := sendCell c j) (Set.mem_univ (K (sendCell c j))))
  isplitr
  · iapply (elim_univ (fun p : Dev nD × Fin 7 => (cellInv ER (Rd (stOf m)) (K (sendCell p.1 p.2)) (sendCell p.1 p.2) : sProp 𝕄)) (c, j)); iexact HS
  isplitl [Ho] <;> iassumption

theorem open_recv (j : Fin 7) : iprop(records m K ∗ (openTok ER (recvCell c j) ∗ semVal (recvCell c j) 0))
    ⊢ |={Set.univ}=> (iprop(atPos ER (recvCell c j) 0 ∅ 0 ∗ reached ER (recvCell c j) 0) : sProp 𝕄) := by
  unfold records
  iintro ⟨⟨-, -, #HS, -⟩, Ho, Hv⟩
  iapply (Rounds.cell_open ER (Rd (stOf m)) (g := recvCell c j) (Set.mem_univ (K (recvCell c j))))
  isplitr
  · iapply (elim_univ (fun p : Dev nD × Fin 7 => (cellInv ER (Rd (stOf m)) (K (recvCell p.1 p.2)) (recvCell p.1 p.2) : sProp 𝕄)) (c, j)); iexact HS
  isplitl [Ho] <;> iassumption

end Open

theorem hopen (c : Dev nD) : iprop(Tk m c ∗ Pipeline.ownSems0 osem c ∗ levAts L lv) ⊢ (|={Set.univ}=> Xk m c : sProp 𝕄) := by
  rw [ownSems_eq]
  unfold Tk Xk linear credits
  iintro ⟨⟨⟨%K, #HR, Hab, HoS, HoV, Hst, Hct⟩, Hcb, Hcr⟩, ⟨⟨Hl, Hs⟩, HvS, HvV⟩, #Hlev⟩
  imod (fupd_all Finset.univ (records m K) _ _ (open_send m K c)) $$ [HoS HvS] with HS
  · isplitr; · iexact HR
    iapply pair_up; isplitl [HoS] <;> iassumption
  imod (fupd_all Finset.univ (records m K) _ _ (open_recv m K c)) $$ [HoV HvV] with HV
  · isplitr; · iexact HR
    iapply pair_up; isplitl [HoV] <;> iassumption
  ihave HS' := pair_down $$ HS; icases HS' with ⟨HaS, #HrS⟩
  ihave HV' := pair_down $$ HV; icases HV' with ⟨HaV, #HrV⟩
  imodintro
  iexists K
  unfold pctx records
  icases HR with ⟨#H1, #H2, #H3, #H4⟩
  isplitr
  · isplitr; · iexact H1
    isplitr; · iexact H2
    isplitr; · iexact H3
    isplitr; · iexact H4
    isplitr; · iexact HrS
    isplitr; · iexact HrV
    iexact Hlev
  isplitl [Hst]; · iexact Hst
  isplitl [Hct]; · iexact Hct
  isplitl [Hcb]; · iexact Hcb
  isplitl [Hab]; · iexact Hab
  isplitl [HaS]; · iexact HaS
  isplitl [Hcr HaV]
  · unfold recvToks
    iapply pair_up; isplitl [Hcr] <;> iassumption
  isplitl [Hl] <;> iassumption

/-! ## The body's data -/

/-- What the body leaves beside the buffers: the barrier cell at rest. -/
def Yk (c : Dev nD) : sProp 𝕄 := semVal (barCell c) 0

def dat (c : Dev nD) : Dat τ (Elt F) Unit ℕ UU ℕ cfg0 c where
  A w := V₁ m c (Pipeline.arrRef spec0 w)
  after := fun
    | 0, t => iblk m c 0 t
    | 1, t => iblk m c 1 t
    | ⟨_ + 2, h⟩, _ => absurd h (Nat.not_lt.2 (Nat.le_add_left _ _))
  Φ t := if t.val = 0 then iprop(Xk m c ∗ scr c ∗ (∃ r, prngReg c r) ∗ StableHlo.held (c : Thread nD τ) rest (V₁ m c))
    else iprop(Yk c ∗ Pipeline.ownSems0 osem c ∗ scr c ∗ (∃ r, prngReg c r) ∗ StableHlo.held (c : Thread nD τ) rest (V₂ m c))
  q _ := fullShare
  owed t := if t.val = 0 then dueAll c 7 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem owed_zero (c : Dev nD) : (pdats m 0 c).owed 0 = dueAll c 7 := by
  show (if ((0 : Fin (cfg0.N + 1)).val = 0) then dueAll c 7 else 0) = _; exact if_pos rfl
theorem owed_first (c : Dev nD) : (dat m c).owed t0_0.castSucc = dueAll c 7 := by
  show (if (t0_0.castSucc : Fin (cfg0.N + 1)).val = 0 then dueAll c 7 else 0) = _; exact if_pos rfl
theorem owed_last (c : Dev nD) : (pdats m 0 c).owed (Fin.last _) = 0 := by
  show (if (Fin.last cfg0.N).val = 0 then dueAll c 7 else 0) = 0
  rw [Fin.val_last, if_neg (by rw [show cfg0.N = 1 from N_0]; decide)]

theorem owesAt_of {c : Dev nD} (d : Dat τ (Elt F) Unit ℕ UU ℕ cfg0 c) (t : Fin (cfg0.N + 1)) (O : CellTallies nD τ sig Unit) (h : d.owed t = O)
    (hr : d.recorded t = Set.univ) : owing c O ⊢ (d.owesAt () t : sProp 𝕄) := by
  unfold Dat.owesAt Pipeline.owesWithin Dat.bound owing; rw [h, hr]
  iintro ⟨%W, HO⟩; iexists W; isplitr; · ipureintro; exact fun _ _ => Or.inl trivial
  iexact HO
theorem owesAt_to {c : Dev nD} (d : Dat τ (Elt F) Unit ℕ UU ℕ cfg0 c) (t : Fin (cfg0.N + 1)) (O : CellTallies nD τ sig Unit) (h : d.owed t = O) :
    (d.owesAt () t : sProp 𝕄) ⊢ owing c O := by
  unfold Dat.owesAt Pipeline.owesWithin owing; rw [h]
  iintro ⟨%W, -, HO⟩; iexists W; iexact HO

theorem before0 (c : Dev nD) (t : Fin cfg0.N) (d) : (dat m c).before 0 t d = iblk m c 0 t :=
  ((dat m c).before_in_eq_fetched 0 rfl (fun _ => rfl) (fun _ _ _ => rfl) (fun _ => rfl) t d).trans rfl
theorem before1 (c : Dev nD) (t : Fin cfg0.N) (d) : (dat m c).before 1 t d = iblk m c 1 t :=
  ((dat m c).before_in_eq_fetched 1 rfl (fun _ => rfl) (fun _ _ _ => rfl) (fun _ => rfl) t d).trans rfl

/-- The slots of a free buffer with the barrier tokens are what the signals take. -/
theorem sigRes_all (c : Dev nD) (f : cM.view.ty.Contents (Elt F)) :
    iprop((bigSep Finset.univ fun j => sigTok c j) ∗ bigSep Finset.univ fun j : Fin 7 => slotPts c (j.val + 1) (jlt j) fullShare f)
      ⊢ (bigSep Finset.univ fun j => sigRes c j : sProp 𝕄) := by
  have one (j : Fin 7) : iprop(sigTok c j ∗ slotPts c (j.rev.val + 1) (jlt j.rev) fullShare f) ⊢ (sigRes c j : sProp 𝕄) := by
    unfold sigTok sigRes
    iintro ⟨Ht, Hs⟩
    isplitl [Ht]; · iexact Ht
    iexists f; iexact Hs
  rw [bigSep_univ_equiv Fin.revPerm fun j : Fin 7 => (slotPts c (j.val + 1) (jlt j) fullShare f : sProp 𝕄)]
  exact pair_up.trans (bigSep_mono fun j _ => one j)

set_option maxHeartbeats 1000000 in
theorem body_obligation (c : Dev nD) : BodyObligation (dat m c) defs₀ 𝒱₀ () Set.univ := fun t => by
  obtain rfl := fin_N0 t
  rw [bigSep_W0, bigSep_W0]
  rw [show (dat m c).Φ t0_0.castSucc = iprop(Xk m c ∗ scr c ∗ (∃ r, prngReg c r) ∗ StableHlo.held (c : Thread nD τ) rest (V₁ m c)) from rfl,
    show (dat m c).Φ t0_0.succ = iprop(Yk c ∗ Pipeline.ownSems0 osem c ∗ scr c ∗ (∃ r, prngReg c r) ∗ StableHlo.held (c : Thread nD τ) rest (V₂ m c)) from rfl,
    rest_eq, rest_eq, V₂_res, V₂_other m c _ (by decide), V₂_other m c _ (by decide), V₂_other m c _ (by decide),
    show V₁ m c main_arg0 = xOf m c from V_main_arg0 m c, ownSems_eq]
  simp only [before0, before1, owns_whole_eq]
  unfold scr Xk
  iintro ⟨⟨⟨%K, HP, Hst, Hct, Hcb, Hab, HaS, Hrt, Hl, Hs⟩, ⟨⟨%fv, Hv⟩, ⟨%fo, Ho⟩, ⟨%fc, Hc⟩⟩, Hreg, Hx, Hg', Hb', Hr⟩, HO, ⟨%d0, %f0, %e0, Hg⟩, ⟨%d1, %f1, %e1, Hb⟩⟩
  ihave HO' := (owesAt_to (dat m c) _ (dueAll c 7) (owed_first m c)) $$ HO
  ihave Hc' := (Entails.of_eq (comm_slots c fc)) $$ Hc
  icases Hc' with ⟨Hc0, Hcs⟩
  ihave Hsig := (sigRes_all c fc) $$ [Hst Hcs]
  · isplitl [Hst] <;> iassumption
  iapply (bodyRun (stOf m) K c (xOf m c) rfl fv fc (gOf m c) (bOf m c) fo (V₁ m c main_v3) _)
  isplitl [HP]; · iexact HP
  isplitl [Hsig Hct Hcb Hab HaS Hrt]
  · isplitl [Hsig]; · iexact Hsig
    isplitl [Hct]; · iexact Hct
    isplitl [Hcb]; · iexact Hcb
    isplitl [Hab]; · iexact Hab
    isplitl [HaS]; · iexact HaS
    iexact Hrt
  isplitl [HO']; · iexact HO'
  isplitl [Hl]; · iexact Hl
  isplitl [Hs]; · iexact Hs
  isplitl [Hx]; · iexact Hx
  isplitl [Hv]; · iexact Hv
  isplitl [Hc0]; · iexact Hc0
  isplitl [Hg]; · subst e0; iexact Hg
  isplitl [Hb]; · subst e1; iexact Hb
  isplitl [Ho]; · iexact Ho
  isplitl [Hr]; · iexact Hr
  unfold bodyPost backPost
  iintro ⟨⟨HvS, HvV, Hs, HO, Hc, Hv, Hg, Hb, Ho, Hr⟩, Hbar, Hl, Hx⟩
  isplitl [HvS HvV Hs Hc Hv Ho Hr Hbar Hl Hx Hreg Hg' Hb']
  · isplitl [Hbar]; · unfold Yk; iexact Hbar
    isplitl [HvS HvV Hs Hl]
    · isplitl [Hl Hs]; · isplitl [Hl] <;> iassumption
      isplitl [HvS] <;> iassumption
    isplitl [Hc Hv Ho]
    · isplitl [Hv]; · iexists (xOf m c); iexact Hv
      isplitl [Ho]; · iexact Ho
      iexists (commOf (stOf m) c); iexact Hc
    isplitl [Hreg]; · iexact Hreg
    isplitl [Hx]; · iexact Hx
    isplitl [Hg']; · iexact Hg'
    isplitl [Hb']; · iexact Hb'
    iexact Hr
  isplitl [HO]; · iapply (owesAt_of (dat m c) t0_0.succ 0 (owed_last m c) rfl); iexact HO
  isplitl [Hg]
  · iexists (gOf m c); isplitr; · ipureintro; rfl
    iexact Hg
  · iexists (bOf m c); isplitr; · ipureintro; rfl
    iexact Hb

/-! ## The region's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem dueAll_pos (c : Dev nD) (n : ℕ) (g : GSem nD τ sig) (u : Unit) (h : 0 < dueAll c n g u) : u ∈ L g ∧ 0 < lv g u := by
  have recv (d : Dev nD) (j : Fin 7) : u ∈ L (recvCell d j) ∧ 0 < lv (recvCell d j) u :=
    ⟨by rw [L_tc]; exact Finset.mem_singleton_self _, by unfold lv; rw [role_recv]; exact Nat.two_pos⟩
  induction n with
  | zero =>
    obtain ⟨d, j, rfl⟩ := dueSend_pos c 7 g u h
    exact recv d j
  | succ n ih =>
    rw [dueAll, Pi.add_apply, Finsupp.add_apply, tallyAt_apply] at h
    by_cases hg : g = barCell (fwd c (nth n)) ∧ u = ()
    · obtain ⟨rfl, -⟩ := hg
      exact ⟨by rw [L_tc]; exact Finset.mem_singleton_self _, by unfold lv; rw [role_bar]; decide⟩
    · rw [if_neg hg] at h; exact ih h

theorem cut_stage : ∀ (w : Fin 2) (s : Fin (spec0 w).nbuf), roleLevel (role (.dma ((spec0 w).sem s))) ≤ 0 := by
  intro w s
  fin_cases w <;> (fin_cases s; exact Nat.le_refl 0)

theorem cut : Pipeline.LevelCutOwed (pcfgs (F := F)) adm (pdats m) () L lv 0 fun _ => 0 where
  hι c w s := by rw [L_tc]; exact Finset.mem_singleton_self _
  hιb c w s := cut_stage w s
  hD c t g i h := by
    have e : (pdats m 0 c).owed t = if t.val = 0 then dueAll c 7 else 0 := rfl
    rw [e] at h
    split at h
    · exact dueAll_pos c 7 g i h
    · exact absurd h (Nat.lt_irrefl 0)

theorem scopedRest_eq (c : Dev nD) : (Pipeline.scopedRest (Ix := Unit) (Name := ℕ) (U := UU) (Lvl := ℕ) (Val := Elt F) (Pipeline.pin (pcfgs (F := F)) adm 0).spec c : sProp 𝕄) = scr c :=
  scopedRest0_eq c

theorem hin (c : Dev nD) : iprop(Pipeline.scopedRest (Pipeline.pin (pcfgs (F := F)) adm 0).spec c ∗ (∃ r, prngReg c r) ∗ StableHlo.held (c.tc : Thread nD τ) rest (V₁ m c) ∗ Xk m c)
    ⊢ (pdats m 0 c).Φ 0 := by
  rw [show (pdats m 0 c).Φ 0 = iprop(Xk m c ∗ scr c ∗ (∃ r, prngReg c r) ∗ StableHlo.held (c : Thread nD τ) rest (V₁ m c)) from rfl, scopedRest_eq]
  iintro ⟨Hs, Hp, Hh, HX⟩
  isplitl [HX]; · iexact HX
  isplitl [Hs]; · iexact Hs
  isplitl [Hp] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) rest (V₂ m c)
      ∗ Pipeline.ownSems0 osem c ∗ Yk c) := by
  rw [show (pdats m 0 c).Φ (Fin.last _) = iprop(Yk c ∗ Pipeline.ownSems0 osem c ∗ scr c ∗ (∃ r, prngReg c r) ∗ StableHlo.held (c : Thread nD τ) rest (V₂ m c)) from rfl, scopedRest_eq]
  iintro ⟨Hy, Ho, Hs, Hp, Hh⟩
  isplitl [Hs]; · iexact Hs
  isplitl [Hp]; · iexact Hp
  isplitl [Hh]; · iexact Hh
  isplitl [Ho] <;> iassumption

theorem share_eq (c : Dev nD) (w : Fin cfg0.W) : (pdats m 0 c).share w = fullShare := by
  unfold Dat.share; split <;> rfl

theorem arr_in (c : Dev nD) (w : Fin 2) (n : ℕ) (hn : n ≤ cfg0.N) : (dat m c).arrAt w n = V₁ m c (Pipeline.arrRef spec0 w) := by
  fin_cases w
  · exact (dat m c).arrAt_in 0 rfl n
  · exact (dat m c).arrAt_in 1 rfl n

theorem arr_ne : ∀ w : Fin 2, Proc.devRef (τ := τ) .tc (Pipeline.arrRef spec0 w) ≠ Proc.devRef .tc main_v3 := by decide

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    rest rest (Finset.Subset.refl _) kitP rfl (fun c => (body_obligation m c).loose)
    (fun _ => 0) (fun c => dueAll c 7) (fun c => (owed_zero m c).trans (zero_add _).symm) (owed_last m) (fun _ => rfl) (share_eq m)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0) (cut m) (fun _ => iprop(emp))
    (fun c w => arr_in m c w 0 (Nat.zero_le _))
    (fun c w => (arr_in m c w _ (Nat.le_refl _)).trans (V₂_other m c _ (arr_ne w)).symm)

end Cert.KernelIdeal.Proto
end
-- ==== Proof.Launch.lean ====
module

public import proofs.«01_k».proof.Proof.Region

/-!
# The launch

All cells of the exchange are set up at once: the barrier cells from their counters, the send and receive cells to be opened when
the kernel starts. Each device is dealt the tokens of the duties it pays and the credits it draws on.
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The send and the receive semaphores of the exchange. -/
def xsem : Fin 7 ⊕ Fin 7 → SemLoc sig
  | .inl j => .dma (sendJ j)
  | .inr j => .dma (recvJ j)
/-- The semaphore and the duty of each token. -/
def tsem : Fin 7 ⊕ (Fin 7 ⊕ Fin 7) → SemLoc sig × Fin 7
  | .inl j => (.reg barS, j)
  | .inr k => (xsem k, 0)

theorem xsem_inj : Function.Injective xsem := by decide
theorem xsem_ne_bar : ∀ k, xsem k ≠ .reg barS := by decide
theorem tsem_inj : Function.Injective tsem := by decide

def barEmb : Dev nD ↪ GSem nD τ sig := ⟨fun c => barCell c, fun _ _ h => congrArg (fun g : GSem nD τ sig => g.1.1) h⟩
def exEmb : Dev nD × (Fin 7 ⊕ Fin 7) ↪ GSem nD τ sig :=
  ⟨fun p => ((p.1 : Thread nD τ), xsem p.2), fun _ _ h =>
    Prod.ext (congrArg (fun g : GSem nD τ sig => g.1.1) h) (xsem_inj (congrArg Prod.snd h))⟩
def tokEmb : Dev nD × (Fin 7 ⊕ (Fin 7 ⊕ Fin 7)) ↪ GSem nD τ sig × ℕ × Fin 7 :=
  ⟨fun p => (((p.1 : Thread nD τ), (tsem p.2).1), 0, (tsem p.2).2), fun _ _ h =>
    Prod.ext (congrArg (fun t : GSem nD τ sig × ℕ × Fin 7 => t.1.1.1) h)
      (tsem_inj (Prod.ext (congrArg (fun t : GSem nD τ sig × ℕ × Fin 7 => t.1.2) h) (congrArg (fun t : GSem nD τ sig × ℕ × Fin 7 => t.2.2) h)))⟩

abbrev barCells : Finset (GSem nD τ sig) := Finset.univ.map barEmb
abbrev exCells : Finset (GSem nD τ sig) := Finset.univ.map exEmb
def toks : Finset (GSem nD τ sig × ℕ × Fin 7) := Finset.univ.map tokEmb

theorem disjoint_cells : Disjoint (barCells : Finset (GSem nD τ sig)) exCells := by
  rw [Finset.disjoint_left]
  rintro g h₁ h₂
  obtain ⟨c, -, rfl⟩ := Finset.mem_map.mp h₁
  obtain ⟨p, -, h⟩ := Finset.mem_map.mp h₂
  exact xsem_ne_bar p.2 (congrArg Prod.snd h)

theorem bar_mem (c : Dev nD) : barCell c ∈ (barCells ∪ exCells : Finset (GSem nD τ sig)) :=
  Finset.mem_union_left _ (Finset.mem_map_of_mem barEmb (Finset.mem_univ c))
theorem send_mem (c : Dev nD) (j : Fin 7) : sendCell c j ∈ (barCells ∪ exCells : Finset (GSem nD τ sig)) :=
  Finset.mem_union_right _ (Finset.mem_map_of_mem exEmb (Finset.mem_univ (c, (.inl j : Fin 7 ⊕ Fin 7))))
theorem recv_mem (c : Dev nD) (j : Fin 7) : recvCell c j ∈ (barCells ∪ exCells : Finset (GSem nD τ sig)) :=
  Finset.mem_union_right _ (Finset.mem_map_of_mem exEmb (Finset.mem_univ (c, (.inr j : Fin 7 ⊕ Fin 7))))

/-- The launch element: the staging cells', the exchange's. -/
def u₀ : UU :=
  (initOf (Pipeline.cells (Pipeline.pin (pcfgs (F := F)) adm) cellOf_inj) (Pipeline.launchToks (Pipeline.pin (pcfgs (F := F)) adm) cellOf_inj),
    (launchOf barCells exCells toks, 1))

/-- A resource held by device 0 alone. -/
def onZero (X : sProp 𝕄) (c : Dev nD) : sProp 𝕄 := if c = 0 then X else iprop(emp)
theorem bigSep_onZero (X : sProp 𝕄) : bigSep Finset.univ (onZero X) = X := by
  rw [bigSep_univ_at _ (0 : Dev nD), bigSep_congr (s := Finset.univ.erase 0) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells exCells toks)))

theorem launch_split (a : UR sig nD τ) (b : UB) :
    (ownU (a, (b, 1)) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The records -/

/-- What follows from something kept holds for a whole family. -/
theorem collect {I : Type} [Fintype I] [DecidableEq I] (R : sProp 𝕄) [BI.Persistent R] (Ψ : I → sProp 𝕄) (h : ∀ i, R ⊢ Ψ i) :
    R ⊢ bigSep Finset.univ Ψ := (bigSep_of_persistent Finset.univ R).trans (bigSep_mono fun i _ => h i)

theorem records_intro (κ : GSem nD τ sig → ℕ) :
    iprop((bigSep (barCells ∪ exCells) fun g => cellInv ER (Rd (stOf m)) (κ g) g) ∗ bigSep barCells fun g => reached ER g 0)
      ⊢ (records m κ : sProp 𝕄) := by
  unfold records
  iintro ⟨#HI, #HR⟩
  isplitr
  · iapply (collect (bigSep (barCells ∪ exCells) fun g => cellInv ER (Rd (stOf m)) (κ g) g) _ fun d => bigSep_elim (bar_mem d)); iexact HI
  isplitr
  · iapply (collect (bigSep (barCells ∪ exCells) fun g => cellInv ER (Rd (stOf m)) (κ g) g) _ fun p : Dev nD × Fin 7 => bigSep_elim (send_mem p.1 p.2)); iexact HI
  isplitr
  · iapply (collect (bigSep (barCells ∪ exCells) fun g => cellInv ER (Rd (stOf m)) (κ g) g) _ fun p : Dev nD × Fin 7 => bigSep_elim (recv_mem p.1 p.2)); iexact HI
  iapply (collect (bigSep barCells fun g => (reached ER g 0 : sProp 𝕄)) _ fun d => bigSep_elim (Finset.mem_map_of_mem barEmb (Finset.mem_univ d))); iexact HR

/-! ## The tokens dealt -/

/-- A signal and the one it answers. -/
def meet : Dev nD × Fin 7 ≃ Dev nD × Fin 7 where
  toFun p := (fwd p.1 p.2, p.2.rev)
  invFun p := (fwd p.1 p.2, p.2.rev)
  left_inv p := Prod.ext (fwd_rev p.1 p.2) (Fin.rev_rev p.2)
  right_inv p := Prod.ext (fwd_rev p.1 p.2) (Fin.rev_rev p.2)
/-- A copy and where it lands. -/
def lands : Dev nD × Fin 7 ≃ Dev nD × Fin 7 where
  toFun p := (fwd p.1 p.2, p.2)
  invFun p := (fwd p.1 p.2.rev, p.2)
  left_inv p := Prod.ext (fwd_rev p.1 p.2) rfl
  right_inv p := Prod.ext (by have h := fwd_rev p.1 p.2.rev; rwa [Fin.rev_rev] at h) rfl

theorem toks_dealt : bigSep toks (fun x => (dutyTok ER x.1 x.2.1 x.2.2 : sProp 𝕄))
    ⊢ bigSep Finset.univ fun c : Dev nD => iprop((bigSep Finset.univ fun j => sigTok c j) ∗ bigSep Finset.univ fun j => copyToks c j) := by
  have hb : (bigSep Finset.univ fun c : Dev nD => bigSep Finset.univ fun j : Fin 7 => (dutyTok ER (barCell c) 0 j : sProp 𝕄))
      = bigSep Finset.univ fun c : Dev nD => bigSep Finset.univ fun j : Fin 7 => sigTok c j := by
    rw [← bigSep_univ_prod fun p : Dev nD × Fin 7 => (dutyTok ER (barCell p.1) 0 p.2 : sProp 𝕄), bigSep_univ_equiv meet, bigSep_univ_prod]
    rfl
  have hr : (bigSep Finset.univ fun c : Dev nD => bigSep Finset.univ fun j : Fin 7 => (dutyTok ER (recvCell c j) 0 0 : sProp 𝕄))
      = bigSep Finset.univ fun c : Dev nD => bigSep Finset.univ fun j : Fin 7 => dutyTok ER (recvCell (fwd c j) j) 0 0 := by
    rw [← bigSep_univ_prod fun p : Dev nD × Fin 7 => (dutyTok ER (recvCell p.1 p.2) 0 0 : sProp 𝕄), bigSep_univ_equiv lands, bigSep_univ_prod]
    rfl
  have h3 (c : Dev nD) : (bigSep Finset.univ fun k : Fin 7 ⊕ (Fin 7 ⊕ Fin 7) => (dutyTok ER ((c : Thread nD τ), (tsem k).1) 0 (tsem k).2 : sProp 𝕄))
      = iprop((bigSep Finset.univ fun j : Fin 7 => dutyTok ER (barCell c) 0 j) ∗ (bigSep Finset.univ fun j : Fin 7 => dutyTok ER (sendCell c j) 0 0)
        ∗ bigSep Finset.univ fun j : Fin 7 => dutyTok ER (recvCell c j) 0 0) := by
    rw [bigSep_univ_sum, bigSep_univ_sum]
    rfl
  refine Entails.of_eq ?_
  unfold toks copyToks
  rw [bigSep_map, bigSep_univ_prod]
  refine (bigSep_congr fun c _ => h3 c).trans ?_
  rw [bigSep_sep', bigSep_sep', bigSep_sep', hb, hr, ← bigSep_sep' Finset.univ (fun c : Dev nD => bigSep Finset.univ fun j : Fin 7 => (dutyTok ER (sendCell c j) 0 0 : sProp 𝕄))]
  refine congrArg _ (bigSep_congr fun c _ => ?_)
  exact (bigSep_sep' _ _ _).symm

/-! ## The credits -/

theorem dueSend_apply (d : Dev nD) (n : ℕ) (g : GSem nD τ sig) :
    dueSend d n g () = ∑ i ∈ Finset.range n, if g = recvCell (fwd d (nth i)) (nth i) then N else 0 := by
  induction n with
  | zero => rfl
  | succ n ih =>
    rw [dueSend, Pi.add_apply, Finsupp.add_apply, tallyAt_apply, ih, Finset.sum_range_succ]
    simp only [and_true]

theorem dueAll_apply (d : Dev nD) (n : ℕ) (g : GSem nD τ sig) :
    dueAll d n g () = dueSend d 7 g () + ∑ i ∈ Finset.range n, if g = barCell (fwd d (nth i)) then 1 else 0 := by
  induction n with
  | zero => rfl
  | succ n ih =>
    rw [dueAll, Pi.add_apply, Finsupp.add_apply, tallyAt_apply, ih, Finset.sum_range_succ, Nat.add_assoc]
    simp only [and_true]

theorem recv_ne_bar (c d : Dev nD) (j : Fin 7) : recvCell c j ≠ barCell d := fun h => by
  have h2 := congrArg (fun g : GSem nD τ sig => role g.2) h
  exact absurd (show Role.recv j = Role.bar from (role_recv j).symm.trans h2) (by simp)

theorem bar_eq_iff (c d : Dev nD) : barCell c = barCell d ↔ c = d :=
  ⟨fun h => congrArg (fun g : GSem nD τ sig => g.1.1) h, fun h => h ▸ rfl⟩
theorem recv_eq_iff (c d : Dev nD) (i j : Fin 7) : recvCell c i = recvCell d j ↔ c = d ∧ i = j := by
  constructor
  · intro h
    have h2 : Role.recv i = Role.recv j := (role_recv i).symm.trans ((congrArg (fun g : GSem nD τ sig => role g.2) h).trans (role_recv j))
    exact ⟨congrArg (fun g : GSem nD τ sig => g.1.1) h, by injection h2⟩
  · rintro ⟨rfl, rfl⟩; rfl

theorem count_bar : ∀ c : Dev nD, (∑ d : Dev nD, ∑ i ∈ Finset.range 7, if c = fwd d (nth i) then 1 else 0) = 7 := by decide
theorem count_recv : ∀ (c : Dev nD) (j : Fin 7),
    (∑ d : Dev nD, ∑ i ∈ Finset.range 7, if c = fwd d (nth i) ∧ j = nth i then 1 else 0) = 1 := by decide

theorem total_bar (c : Dev nD) : (∑ d : Dev nD, dueAll d 7 (barCell c) ()) = 7 := by
  refine (Finset.sum_congr rfl fun d _ => ?_).trans (count_bar c)
  rw [dueAll_apply, dueSend_apply, Finset.sum_eq_zero fun i _ => if_neg (fun h => recv_ne_bar _ _ _ h.symm), Nat.zero_add]
  simp only [bar_eq_iff]

theorem total_recv (c : Dev nD) (j : Fin 7) : (∑ d : Dev nD, dueAll d 7 (recvCell c j) ()) = N := by
  rw [← Nat.one_mul N, ← count_recv c j, Finset.sum_mul]
  refine Finset.sum_congr rfl fun d _ => ?_
  rw [dueAll_apply, dueSend_apply, Finset.sum_eq_zero fun i _ => if_neg (recv_ne_bar _ _ _), Nat.add_zero, Finset.sum_mul]
  refine Finset.sum_congr rfl fun i _ => ?_
  simp only [recv_eq_iff, ite_mul, Nat.one_mul, Nat.zero_mul]

theorem launch_at (g : GSem nD τ sig) (n : ℕ) (h : (∑ d : Dev nD, dueAll d 7 g ()) = n) :
    tallyOn g (launchCredit (Pipeline.owing fun c => dueAll c 7) 0 g) = (tallyAt g () n : CellTallies nD τ sig Unit) := by
  unfold tallyAt; refine congrArg _ (Finsupp.ext fun u => ?_); cases u
  rw [Pipeline.launchCredit_owing, Finsupp.single_eq_same, h]

def recvEmb : Fin 7 ↪ SemLoc sig := ⟨fun j => .dma (recvJ j), fun _ _ h => Sum.inr_injective (xsem_inj (show xsem (.inr _) = xsem (.inr _) from h))⟩

theorem credits_intro (c : Dev nD) : (Pipeline.launchCred (fun c => dueAll c 7) c : sProp 𝕄) ⊢ credits c := by
  unfold Pipeline.launchCred credits
  rw [bigSep_univ_at _ (SemLoc.reg barS), launch_at _ 7 (total_bar c)]
  refine sep_mono_right ?_
  have hs : Finset.univ.map recvEmb ⊆ (Finset.univ : Finset (SemLoc sig)).erase (.reg barS) := fun x hx => by
    obtain ⟨j, -, rfl⟩ := Finset.mem_map.mp hx
    exact Finset.mem_erase.mpr ⟨xsem_ne_bar (.inr j), Finset.mem_univ _⟩
  refine (bigSep_subset hs).trans ?_
  rw [bigSep_map]
  exact bigSep_mono fun j _ => Entails.of_eq (congrArg cred (launch_at (recvCell c j) N (total_recv c j)))

/-! ## Everything dealt -/

/-- What rides beside the buffers up to the kernel. -/
def R (c : Dev nD) : sProp 𝕄 := iprop((Tk m c ∗ ∃ r, prngReg c r) ∗ ∃ W, owes (c : Thread nD τ) (dueAll c 7) W)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What of a device's launch holdings is not the exchange's. -/
def bundle (c : Dev nD) : sProp 𝕄 :=
  iprop(StableHlo.held (c : Thread nD τ) bufs (V₀ m c) ∗ credits c ∗ owes (c : Thread nD τ) (dueAll c 7) ∅ ∗ ∃ r, prngReg c r)

theorem T₀_intro (κ : GSem nD τ sig → ℕ) (c : Dev nD) : iprop(records m κ ∗ (linear c ∗ bundle m c)) ⊢ T₀ m c := by
  unfold bundle T₀ R Tk
  iintro ⟨#HR, Hl, Hh, Hc, HO, Hp⟩
  isplitl [Hh]; · iexact Hh
  isplitr [HO]
  · isplitr [Hp]
    · isplitl [Hl]
      · iexists κ; isplitr; · iexact HR
        iexact Hl
      iexact Hc
    · iexact Hp
  · iexists ∅; iexact HO

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- A device's holdings at the launch. -/
def launchHeld (c : Dev nD) : sProp 𝕄 :=
  iprop(unscopedBufs c (fun b => m ((c : Thread nD τ).loc b)) ∗ unscopedSems0 c
    ∗ owes (c : Thread nD τ) (dueAll c 7) ∅ ∗ Pipeline.launchCred (fun c => dueAll c 7) c ∗ prngReg c (ρ c) ∗ G c)

theorem launch_one (c : Dev nD) : launchHeld m ρ c ⊢ (iprop(bundle m c ∗ (semVal (barCell c) 0 ∗ G c)) : sProp 𝕄) := by
  unfold launchHeld
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  ihave Hc := (credits_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem launch_all : bigSep Finset.univ (launchHeld m ρ)
    ⊢ (bigSep Finset.univ fun c : Dev nD => iprop(bundle m c ∗ (semVal (barCell c) 0 ∗ G c)) : sProp 𝕄) := bigSep_mono fun c _ => launch_one m ρ c

theorem open_dealt : bigSep exCells (fun g => (openTok ER g : sProp 𝕄))
    ⊢ bigSep Finset.univ fun c : Dev nD => iprop((bigSep Finset.univ fun j => openTok ER (sendCell c j)) ∗ bigSep Finset.univ fun j => openTok ER (recvCell c j)) :=
  Entails.of_eq (by
    rw [bigSep_map, bigSep_univ_prod]
    refine bigSep_congr fun c _ => ?_
    rw [bigSep_univ_sum]
    rfl)

theorem init : iprop((bigSep Finset.univ (launchHeld m ρ)) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (launch_all m ρ) $$ H
  ihave H2 := pair_down $$ H'; icases H2 with ⟨HB, H3⟩
  ihave H4 := pair_down $$ H3; icases H4 with ⟨Hv, HG⟩
  ihave Hu := (show bigSep Finset.univ (G (F := F)) ⊢ BI.own (ER (launchOf barCells exCells toks)) from
    Entails.of_eq (bigSep_onZero (F := F) (BI.own (ER (launchOf barCells exCells toks))))) $$ HG
  imod (Rounds.fund_launch ER (Rd (stOf m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · iapply (records_intro m κ)
    isplitr; · iexact Hinv
    iexact Hr
  iapply pair_up
  isplitr [HB]
  · unfold linear
    iapply pair_up; isplitl [Hat]; · iapply hat $$ Hat
    iapply (Entails.of_eq (congrArg (bigSep Finset.univ) (funext fun c : Dev nD => show _ = _ from
      Entails.antisymm BI.sep_assoc BI.sep_assoc')))
    iapply pair_up; isplitl [Hopen]; · iapply (open_dealt (F := F)) $$ Hopen
    iapply (toks_dealt (F := F)) $$ Htok
  · iexact HB

end Cert.KernelIdeal.Proto
end
-- ==== Proof.Run.lean ====
module

public import proofs.«01_k».proof.Proof.Launch

/-!
# The run

Every execution ends with all counters at zero, the arguments as launched and the result of device `c` at `resOf m c`.
-/

@[expose] public section

noncomputable section

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

namespace Cert.KernelIdeal.Proto

open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The two reshapes on the host. -/
def seg : Pipeline.HostSeg (Name := ℕ) (U := UU) (pcfgs (F := F)) defs₀ 𝒱₀ L lv :=
  Pipeline.HostSeg.ofOps _ _ _ _ _ bufs hostOps0
    (fun op h => by
      simp only [hostOps0, List.mem_cons, List.not_mem_nil, or_false] at h
      rcases h with rfl | rfl
      · show ({Proc.devRef .tc main_arg1, Proc.devRef .tc main_v1} : Finset (DevRef τ sig)) ⊆ bufs; decide
      · show ({Proc.devRef .tc main_arg2, Proc.devRef .tc main_v2} : Finset (DevRef τ sig)) ⊆ bufs; decide)
    (List.forall_iff_forall_mem.mp hostOps0_fresh) (V₀ m) (R m)

/-- @main as its segments. -/
def segs : List (Pipeline.Seg (pcfgs (F := F)) adm (pdats m) () defs₀ 𝒱₀ L lv) := [.host (seg m), .region (reg m)]

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rest (V₁ m c) ∗ emp) ∗ Tk m c ∗ ∃ Wd, owes (c : Thread nD τ) (0 + dueAll c 7) Wd)
  rw [bufs_split, zero_add]
  unfold R
  iintro ⟨⟨Ha, Hh⟩, ⟨HT, Hp⟩, HO⟩
  isplitl [Ha]; · iexact Ha
  isplitl [Hp]; · iexact Hp
  isplitl [Hh]
  · isplitl [Hh]; · iexact Hh
    iempintro
  isplitl [HT] <;> iassumption

theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  dsimp only [Tₙ]
  rw [bufs_split]
  unfold Yk
  iintro ⟨Ha, -, ⟨Hh, -⟩, Hb, HO⟩
  isplitr [HO]
  · isplitl [Ha Hh]; · isplitl [Ha] <;> iassumption
    iexact Hb
  iexact HO

theorem unscoped_eq : ∀ sm : SemLoc sig, sm.isScoped .tc = false → sm = .reg barS := by decide

set_option backward.isDefEq.respectTransparency.types false in
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = resOf m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg m) (reg m) rfl c]; rfl)
    (by simp only [segs, Pipeline.Seg.pipes_host, Pipeline.Seg.pipes_region, Pipeline.Seg.pipes_nil]; decide)
    (O₀ := fun c => dueAll c 7) (hL := L_of_ne) (G := G) (u₀ := u₀)
    (hu₀ := by
      unfold u₀ G
      iintro Hu
      ihave H := (launch_split _ _) $$ Hu
      icases H with ⟨HP, HX⟩
      imodintro
      isplitl [HP]; · iexact HP
      rw [bigSep_onZero]; iexact HX)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_arg2).view.loc (c : Thread nD τ)) = V₂ m c main_arg2
        ∧ s.mem ((Memref.whole main_v3).view.loc (c : Thread nD τ)) = V₂ m c main_v3)
      ∧ s.sem (barCell c) = 0)
    (hfin := fun c s' => by
      dsimp only [Tₙ]; rw [bufs_split, rest_eq]
      iintro ⟨⟨⟨-, Hx, Hg, Hb, Hr⟩, Hb0⟩, HSI⟩
      icombine HSI Hx gives %hx
      icombine HSI Hg gives %hg
      icombine HSI Hb gives %hb
      icombine HSI Hr gives %hr
      icombine HSI Hb0 gives %h0
      imodintro
      isplitr
      · ipureintro
        exact ⟨⟨Buf.eq_of_forall_mem_univ hx, Buf.eq_of_forall_mem_univ hg, Buf.eq_of_forall_mem_univ hb, Buf.eq_of_forall_mem_univ hr⟩, by simpa using h0⟩
      iexact HSI)
    (hQ := fun s h hs => ⟨fun c => by
        obtain ⟨⟨hx, hg, hb, hr⟩, -⟩ := h c
        rw [V₂_other m c _ (by decide)] at hx hg hb
        rw [V₂_res] at hr
        exact ⟨hx.trans (V_main_arg0 m c), hg.trans (V_main_arg1 m c), hb.trans (V_main_arg2 m c), hr⟩,
      sem_eq_zero hs fun c sm hsm => by
        obtain rfl := unscoped_eq sm hsm
        exact (h c).2⟩)

end Cert.KernelIdeal.Proto
end
-- ==== Proof.Norm.lean ====
module

public import Idealize.ShloMosaic.PureOps.Ideal.Laws

/-!
# The normalisation, as mathematics

One row is a family of 4096 finite numbers. The kernel gets the variance as the mean of the squares less the square of
the mean and multiplies by the reciprocal of a root; the reference averages the squares of the deviations and divides by
the root. Both give the same number, with any scale and any offset.
-/

@[expose] public section

noncomputable section

open Idealize.ShloMosaic

namespace Cert.Norm

/-- The row length, as the literal both programs write. -/
theorem len_lit : Ideal.ofBits .f32 0x45800000#32 = ((4096 : ℝ) : EReal) := by
  simp [Ideal.ofBits, Ideal.ieee, -EReal.coe_mul]; norm_num

/-- The small number added to the variance is a positive real. -/
theorem eps_lit : ∃ e : ℝ, 0 < e ∧ Ideal.ofBits .f32 0x3727C5AC#32 = (e : EReal) :=
  ⟨10995116 / 1099511627776, by norm_num, by simp [Ideal.ofBits, Ideal.ieee, -EReal.coe_mul]; norm_num⟩

theorem zero_lit : Ideal.ofBits .f32 0x00000000#32 = 0 := by
  simp [Ideal.ofBits, Ideal.ieee]

theorem top_lit : Ideal.ofBits .f32 0x7F800000#32 = ⊤ := by
  simp [Ideal.ofBits, Ideal.ieee]

theorem bot_lit : Ideal.ofBits .f32 0xFF800000#32 = ⊥ := by
  simp [Ideal.ofBits, Ideal.ieee]

/-- The row length. -/
abbrev len : EReal := Ideal.ofBits .f32 0x45800000#32

/-- The small number. -/
abbrev eps : EReal := Ideal.ofBits .f32 0x3727C5AC#32

/-- What the kernel does with the sum `s` and the sum of squares `q` of a row, an element `x`, its scale and offset. -/
def fromSums (s q x g b : EReal) : EReal :=
  g * ((x - Ideal.div s len) * Ideal.rsqrt (Ideal.div q len - Ideal.div s len * Ideal.div s len + eps)) + b

/-- The mean of a row. -/
def mean (row : Fin 4096 → EReal) : EReal := Ideal.div (∑ k, row k) len

/-- The mean square deviation of a row. -/
def var (row : Fin 4096 → EReal) : EReal :=
  Ideal.div (∑ k, (row k - mean row) * (row k - mean row)) len

/-- What the reference does with a row. -/
def fromRow (row : Fin 4096 → EReal) (x g b : EReal) : EReal :=
  Ideal.div (g * (x - mean row)) (Ideal.sqrt (var row + eps)) + b

theorem coe_sum {ι : Type} (s : Finset ι) (r : ι → ℝ) : ∑ k ∈ s, (r k : EReal) = ((∑ k ∈ s, r k : ℝ) : EReal) := by
  classical
  induction s using Finset.induction_on with
  | empty => simp
  | insert a s ha ih => rw [Finset.sum_insert ha, Finset.sum_insert ha, ih, EReal.coe_add]

/-- A finite number over the row length. -/
theorem div_len (r : ℝ) : Ideal.div (r : EReal) len = ((r / 4096 : ℝ) : EReal) := by
  rw [len, len_lit, Ideal.div_coe (by norm_num), ← EReal.coe_mul]
  congr 1; ring

/-- The mean square deviation is the mean square less the squared mean. -/
theorem var_eq (r : Fin 4096 → ℝ) :
    (∑ k, (r k - (∑ k, r k) / 4096) * (r k - (∑ k, r k) / 4096)) / 4096
      = (∑ k, r k * r k) / 4096 - (∑ k, r k) / 4096 * ((∑ k, r k) / 4096) := by
  generalize hs : ∑ k, r k = s
  have h : ∀ k, (r k - s / 4096) * (r k - s / 4096) = r k * r k - s / 2048 * r k + s * s / 16777216 := fun k => by ring
  simp only [h, Finset.sum_add_distrib, Finset.sum_sub_distrib, ← Finset.mul_sum, hs, Finset.sum_const, Finset.card_univ,
    Fintype.card_fin, nsmul_eq_mul]
  push_cast
  ring

theorem fromSums_eq_fromRow (row : Fin 4096 → EReal) (r : Fin 4096 → ℝ) (hr : ∀ k, row k = (r k : EReal))
    (x g b : EReal) : fromSums (∑ k, row k) (∑ k, row k * row k) x g b = fromRow row x g b := by
  obtain rfl : row = fun k => (r k : EReal) := funext hr
  obtain ⟨e, he, hE⟩ := eps_lit
  have hnn : 0 ≤ (∑ k, r k * r k) / 4096 - (∑ k, r k) / 4096 * ((∑ k, r k) / 4096) := by
    rw [← var_eq]
    exact div_nonneg (Finset.sum_nonneg fun k _ => mul_self_nonneg _) (by norm_num)
  have hmean : mean (fun k => (r k : EReal)) = (((∑ k, r k) / 4096 : ℝ) : EReal) := by
    rw [mean, coe_sum, div_len]
  have hvar : var (fun k => (r k : EReal))
      = (((∑ k, r k * r k) / 4096 - (∑ k, r k) / 4096 * ((∑ k, r k) / 4096) : ℝ) : EReal) := by
    rw [var, hmean]
    simp only [← EReal.coe_sub, ← EReal.coe_mul, coe_sum, div_len, var_eq]
  have hsum : Ideal.div (∑ k, (r k : EReal)) len = (((∑ k, r k) / 4096 : ℝ) : EReal) := by rw [coe_sum, div_len]
  have hsq : Ideal.div (∑ k, (r k : EReal) * (r k : EReal)) len = (((∑ k, r k * r k) / 4096 : ℝ) : EReal) := by
    simp only [← EReal.coe_mul, coe_sum, div_len]
  rw [fromSums, fromRow, hvar, hmean, hsum, hsq, eps, hE]
  simp only [← EReal.coe_sub, ← EReal.coe_mul, ← EReal.coe_add]
  generalize (∑ k, r k * r k) / 4096 - (∑ k, r k) / 4096 * ((∑ k, r k) / 4096) = v at hnn
  have hv : 0 < v + e := by linarith
  have hroot : Real.sqrt (v + e) ≠ 0 := (Real.sqrt_pos.mpr hv).ne'
  rw [Ideal.rsqrt_coe, if_neg (not_lt.mpr hv.le), if_neg hv.ne', Ideal.sqrt_coe, if_neg (not_lt.mpr hv.le),
    Ideal.div_coe hroot, one_div, mul_assoc]

theorem sum_top : ∑ _k : Fin 4096, (⊤ : EReal) = ⊤ := by
  rw [Finset.sum_const, Finset.card_univ, Fintype.card_fin, EReal.nsmul_eq_mul]
  exact EReal.coe_mul_top_of_pos (x := 4096) (by norm_num)

/-- Without finite elements the two differ: on a row of `⊤` with scale one and offset zero the kernel gives `⊤` and the
    reference zero. -/
theorem infinite_row :
    fromSums (∑ _k : Fin 4096, (⊤ : EReal)) (∑ _k : Fin 4096, (⊤ : EReal) * ⊤) ⊤ 1 0 = ⊤ ∧ fromRow (fun _ => ⊤) ⊤ 1 0 = 0 := by
  obtain ⟨e, he, hE⟩ := eps_lit
  have hd : Ideal.div ⊤ len = ⊤ := by
    rw [len, len_lit, Ideal.div_coe (by norm_num)]
    exact EReal.top_mul_coe_of_pos (by norm_num)
  have hr : Ideal.rsqrt ⊥ = ⊥ := rfl
  have hs : Ideal.sqrt ⊤ = ⊤ := rfl
  have hsub : (⊤ : EReal) - ⊤ = ⊥ := rfl
  constructor
  · rw [fromSums, EReal.top_mul_top, sum_top, hd, EReal.top_mul_top, hsub, EReal.bot_add, hr, EReal.bot_mul_bot, one_mul, add_zero]
  · rw [fromRow, var, mean, sum_top, hd, hsub, EReal.bot_mul_bot, sum_top, hd, eps, hE, EReal.top_add_coe, hs]
    simp [Ideal.div]

end Cert.Norm
-- ==== Proof.Blocks.lean ====
module

public import proofs.«01_k».proof.Proof.Run
public import proofs.«01_k».proof.Proof.Norm
public import Idealize.ShloMosaic.Lib.ValueLayout
public import Idealize.ShloMosaic.Lib.ValueLayoutCasts
public import Idealize.ShloMosaic.Lib.ValueIdx

/-!
# The result rows at an index

All four row blocks are one function of the total of the eight slots: the mean of row `i` of block `k` is row `2k + i/128`,
lane `i % 128`, of the total over the row length, and its mean square lies eight rows below.
-/

@[expose] public section

noncomputable section

open Idealize.ShloMosaic Idealize.ShloMosaic.ValueIdx

namespace Cert.KernelIdeal.Proto

open Cert.KernelIdeal Cert.KernelIdeal.Gen Cert.Norm

abbrev lit (b : BitVec 32) : FVec Ideal S256 .f32 := broadcast S256 (Scalar.ofBits .f32 b)

/-- Two rows of the total from row `o`, as one column of 256, over the row length. -/
def stat (o : ℕ) (h : S16x128.Slices ![o, 0] S2x128) (t : FVec Ideal S16x128 .f32) : FVec Ideal S256 .f32 :=
  divf (shapeCast S256 (extractStridedSlice S2x128 ![o, 0] t h) shapeCasts_S2x128_S256) (lit 0x45800000#32)

/-- One block of rows normalised by its means and mean squares. -/
def normBlock (mn sq : FVec Ideal S256 .f32) (x : FVec Ideal S256x512 .f32) (g b : FVec Ideal S1x512 .f32) : FVec Ideal S256x512 .f32 :=
  shapeCast S256x512
    (addf
      (mulf (broadcastTo S256x512 (shapeCast S1x512 g shapeCasts_S1x512_S1x512) broadcasts_S1x512_S256x512)
        (mulf (subf x (broadcastTo S256x512 (shapeCast S256x1 mn shapeCasts_S256_S256x1) broadcasts_S256x1_S256x512))
          (broadcastTo S256x512
            (shapeCast S256x1 (rsqrt (addf (subf sq (mulf mn mn)) (lit 0x3727C5AC#32))) shapeCasts_S256_S256x1)
            broadcasts_S256x1_S256x512)))
      (broadcastTo S256x512 (shapeCast S1x512 b shapeCasts_S1x512_S1x512) broadcasts_S1x512_S256x512))
    shapeCasts_S256x512_S256x512

/-- The total of the eight slots. -/
def tot (s : Fin 8 → FVec Ideal S1x16x128 .f32) : FVec Ideal S16x128 .f32 :=
  k0_pay12 (k0_pay11 (s 0) (s 1) (s 2) (s 3) (s 4) (s 5) (s 6)) (s 7)

theorem sums_inb (k : Fin 4) : S16x128.Slices ![2 * k.val, 0] S2x128 := by revert k; decide
theorem squares_inb (k : Fin 4) : S16x128.Slices ![8 + 2 * k.val, 0] S2x128 := by revert k; decide

theorem blockOf_eq (s : Fin 8 → FVec Ideal S1x16x128 .f32) (x : Fin 4 → FVec Ideal S256x512 .f32) (g b : FVec Ideal S1x512 .f32)
    (k : Fin 4) :
    blockOf (F := Ideal) s x g b k = normBlock (stat _ (sums_inb k) (tot s)) (stat _ (squares_inb k) (tot s)) (x k) g b := by
  match k with
  | 0 => rfl
  | 1 => rfl
  | 2 => rfl
  | 3 => rfl

theorem tot_apply (s : Fin 8 → FVec Ideal S1x16x128 .f32) (r : Fin 16) (l : Fin 128) :
    tot s (ix2 r l) = ∑ n, s n (ix3 0 r l) := by
  have h : ∀ n, shapeCast S16x128 (s n) shapeCasts_S1x16x128_S16x128 (ix2 r l) = s n (ix3 0 r l) :=
    fun n => shapeCast_1ab_ab_apply (s n) _ r l
  simp only [← h, Fin.sum_univ_eight]
  rfl

theorem stat_apply (o : ℕ) (h : S16x128.Slices ![o, 0] S2x128) (t : FVec Ideal S16x128 .f32) (i : Fin 256) (ho : o + i.val / 128 < 16) :
    stat o h t (ix1 i) = Ideal.div (t (ix2 ⟨o + i.val / 128, ho⟩ ⟨i.val % 128, Nat.mod_lt _ (by omega)⟩)) len := by
  have hc : shapeCast S256 (extractStridedSlice S2x128 ![o, 0] t h) shapeCasts_S2x128_S256 (ix1 i)
      = extractStridedSlice S2x128 ![o, 0] t h (ix2 ⟨i.val / 128, by omega⟩ ⟨i.val % 128, Nat.mod_lt _ (by omega)⟩) :=
    shapeCast_apply _ _ _ _ (by
      rw [Shape.rowMajor_val_two, Shape.rowMajor_val_one]
      show i.val / 128 * 128 + i.val % 128 = i.val
      omega)
  show Ideal.div (shapeCast S256 _ _ (ix1 i)) len = _
  rw [hc, slice2_axis0_apply o t h _ _ ⟨o + i.val / 128, ho⟩ rfl]

theorem col_apply (v : FVec Ideal S256 .f32) (i : Fin 256) (l : Fin 512) :
    broadcastTo S256x512 (shapeCast S256x1 v shapeCasts_S256_S256x1) broadcasts_S256x1_S256x512 (ix2 i l) = v (ix1 i) := by
  rw [broadcastTo_apply (shapeCast S256x1 v shapeCasts_S256_S256x1) broadcasts_S256x1_S256x512 (ix2 i l) (ix2 i (0 : Fin 1))
    (fun a => by match a with | ⟨0, _⟩ => rfl | ⟨1, _⟩ => rfl)]
  exact shapeCast_a_a1_apply v _ i 0

theorem row_apply (v : FVec Ideal S1x512 .f32) (i : Fin 256) (l : Fin 512) :
    broadcastTo S256x512 (shapeCast S1x512 v shapeCasts_S1x512_S1x512) broadcasts_S1x512_S256x512 (ix2 i l) = v (ix2 0 l) := by
  rw [shapeCast_self]
  exact broadcastTo_1b_ab_apply v _ i l

theorem normBlock_apply (mn sq : FVec Ideal S256 .f32) (x : FVec Ideal S256x512 .f32) (g b : FVec Ideal S1x512 .f32)
    (i : Fin 256) (l : Fin 512) :
    normBlock mn sq x g b (ix2 i l)
      = g (ix2 0 l) * ((x (ix2 i l) - mn (ix1 i)) * Ideal.rsqrt (sq (ix1 i) - mn (ix1 i) * mn (ix1 i) + eps)) + b (ix2 0 l) := by
  unfold normBlock
  rw [shapeCast_self, addf_apply, mulf_apply, mulf_apply, subf_apply, row_apply, row_apply, col_apply, col_apply]
  rfl

/-- Element `(i, l)` of block `k`. -/
theorem blockOf_apply (s : Fin 8 → FVec Ideal S1x16x128 .f32) (x : Fin 4 → FVec Ideal S256x512 .f32) (g b : FVec Ideal S1x512 .f32)
    (k : Fin 4) (i : Fin 256) (l : Fin 512) :
    blockOf (F := Ideal) s x g b k (ix2 i l)
      = fromSums (∑ n, s n (ix3 0 ⟨2 * k.val + i.val / 128, by omega⟩ ⟨i.val % 128, Nat.mod_lt _ (by omega)⟩))
          (∑ n, s n (ix3 0 ⟨8 + 2 * k.val + i.val / 128, by omega⟩ ⟨i.val % 128, Nat.mod_lt _ (by omega)⟩))
          (x k (ix2 i l)) (g (ix2 0 l)) (b (ix2 0 l)) := by
  rw [blockOf_eq, normBlock_apply, stat_apply _ _ _ _ (by omega), stat_apply _ _ _ _ (by omega), tot_apply, tot_apply]
  rfl

end Cert.KernelIdeal.Proto
-- ==== Proof.KernelValue.lean ====
module

public import proofs.«01_k».proof.Proof.Blocks

/-!
# The kernel's result at an index

Element `(r, l)` of device `c`'s result is the normalisation of its own `x (r, l)` by the sum and the sum of squares of row
`r` over all eight devices, with its own scale and offset at `l`.
-/

@[expose] public section

noncomputable section

open Idealize.ShloMosaic Idealize.ShloMosaic.ValueIdx Idealize.ShloMosaic.TcCoe

namespace Cert.KernelIdeal.Proto

open Cert.KernelIdeal Cert.KernelIdeal.Gen Cert.Norm

/-- The sums of 256 rows, as two rows of 128. -/
def rowSums (v : FVec Ideal S256x512 .f32) : FVec Ideal S1x2x128 .f32 :=
  shapeCast S1x2x128 (shapeCast S2x128 (multiReduction .add [1] S256 v 0x00000000#32 reduces_S256x512_S256 (.inl rfl) rfl) shapeCasts_S256_S2x128)
    shapeCasts_S2x128_S1x2x128

theorem rowSums_apply (v : FVec Ideal S256x512 .f32) (u : Fin 1) (p : Fin 2) (l : Fin 128) (i : Fin 256) (hi : i.val = p.val * 128 + l.val) :
    rowSums v (ix3 u p l) = ∑ j : Fin 512, v (ix2 i j) := by
  have h2 : shapeCast S2x128 (multiReduction .add [1] S256 v 0x00000000#32 reduces_S256x512_S256 (.inl rfl) rfl) shapeCasts_S256_S2x128 (ix2 p l)
      = multiReduction .add [1] S256 v 0x00000000#32 reduces_S256x512_S256 (.inl rfl) rfl (ix1 i) :=
    shapeCast_apply _ _ _ _ (by
      rw [Shape.rowMajor_val_two, Shape.rowMajor_val_one]
      show i.val = p.val * 128 + l.val
      exact hi)
  unfold rowSums
  rw [shapeCast_ab_1ab_apply, h2]
  refine (Ideal.multiReduction_add_single v _ reduces_S256x512_S256 (.inl rfl) rfl (ix1 i)).trans ?_
  refine Finset.sum_congr rfl fun j _ => congrArg v (funext fun a => Fin.ext ?_)
  match a with
  | ⟨0, _⟩ => rfl
  | ⟨1, _⟩ => rfl

variable (a : Fin 4 → FVec Ideal S256x512 .f32)

/-- The first four pieces of the statistics are the sums of the four row blocks, -/
theorem statPay_sums (k : Fin 4) (h : k.val < 8) :
    statPay (F := Ideal) (a 0) (a 1) (a 2) (a 3) ⟨k.val, h⟩ = rowSums (a k) := by
  match k with
  | 0 => rfl
  | 1 => rfl
  | 2 => rfl
  | 3 => rfl

/-- and the last four their sums of squares. -/
theorem statPay_squares (k : Fin 4) (h : 4 + k.val < 8) :
    statPay (F := Ideal) (a 0) (a 1) (a 2) (a 3) ⟨4 + k.val, h⟩ = rowSums (mulf (a k) (a k)) := by
  match k with
  | 0 => rfl
  | 1 => rfl
  | 2 => rfl
  | 3 => rfl

/-- A row of the statistics, by its piece. -/
theorem statRow_apply (q : Fin 8) (p : Fin 2) (l : Fin 128) (r : Fin 16) (hr : r.val = 2 * q.val + p.val) :
    statRow (F := Ideal) (a 0) (a 1) (a 2) (a 3) (ix2 r l) = statPay (F := Ideal) (a 0) (a 1) (a 2) (a 3) q (ix3 0 p l) := by
  unfold statRow
  refine congr (congrArg _ (Fin.ext ?_)) (funext fun b => Fin.ext ?_)
  · show r.val / 2 = q.val; omega
  · match b with
    | ⟨0, _⟩ => rfl
    | ⟨1, _⟩ => show r.val % 2 = p.val; omega
    | ⟨2, _⟩ => rfl

variable (fx : S1024x512.Idx → EReal)

/-- The four row blocks of a device's `x`. -/
abbrev blk (k : Fin 4) : FVec Ideal S256x512 .f32 := rows (F := Ideal) k.val k.isLt fx

theorem blk_apply (k : Fin 4) (i : Fin 256) (j : Fin 512) (r : Fin 1024) (hr : r.val = 256 * k.val + i.val) :
    blk fx k (ix2 i j) = fx (ix2 r j) := by
  refine congrArg fx (funext fun b => Fin.ext ?_)
  match b with
  | ⟨0, _⟩ => exact hr.symm
  | ⟨1, _⟩ => rfl

variable (k : Fin 4) (i : Fin 256) (r : Fin 1024) (hr : r.val = 256 * k.val + i.val)
include hr

theorem stats_sums :
    statsOf (F := Ideal) fx (ix2 ⟨2 * k.val + i.val / 128, by omega⟩ ⟨i.val % 128, Nat.mod_lt _ (by omega)⟩) = ∑ j : Fin 512, fx (ix2 r j) := by
  refine (statRow_apply (blk fx) ⟨k.val, by omega⟩ ⟨i.val / 128, by omega⟩ _ _ rfl).trans ?_
  rw [statPay_sums, rowSums_apply _ _ _ _ i (by show i.val = i.val / 128 * 128 + i.val % 128; omega)]
  exact Finset.sum_congr rfl fun j _ => blk_apply fx k i j r hr

theorem stats_squares :
    statsOf (F := Ideal) fx (ix2 ⟨8 + 2 * k.val + i.val / 128, by omega⟩ ⟨i.val % 128, Nat.mod_lt _ (by omega)⟩)
      = ∑ j : Fin 512, fx (ix2 r j) * fx (ix2 r j) := by
  refine (statRow_apply (blk fx) ⟨4 + k.val, by omega⟩ ⟨i.val / 128, by omega⟩ _ _ (by show 8 + 2 * k.val + i.val / 128 = 2 * (4 + k.val) + i.val / 128; omega)).trans ?_
  rw [statPay_squares, rowSums_apply _ _ _ _ i (by show i.val = i.val / 128 * 128 + i.val % 128; omega)]
  exact Finset.sum_congr rfl fun j _ => by rw [mulf_apply, blk_apply fx k i j r hr]

omit hr

/-- The eight slots of device `c` hold the statistics of all eight devices. -/
theorem sum_back (c : Dev nD) (f : Dev nD → EReal) : ∑ n : Fin 8, f (back c n.val) = ∑ d, f d := by
  have hb : Function.Bijective (fun n : Fin 8 => back c n.val) := by revert c; decide
  exact hb.sum_comp f

variable (m : (ℓ : Loc nD τ sig) → Buf (Elt Ideal) ℓ)

theorem V_scale (c : Dev nD) : V m c main_v1 = shapeCast S1x512 (m ((c : Thread nD τ).loc main_arg1)) shapeCasts_S512_S1x512 := rfl
theorem V_offset (c : Dev nD) : V m c main_v2 = shapeCast S1x512 (m ((c : Thread nD τ).loc main_arg2)) shapeCasts_S512_S1x512 := rfl

/-- The staged scale and offset are the launched ones. -/
theorem gOf_apply (c : Dev nD) (l : Fin 512) : gOf m c (ix2 0 l) = m ((c : Thread nD τ).loc main_arg1) (ix1 l) := by
  have h : gOf m c (ix2 0 l) = V m c main_v1 (ix2 0 l) := by
    unfold gOf iblk
    refine congrArg (V m c main_v1) (funext fun a => Fin.ext ?_)
    match a with
    | ⟨0, _⟩ => rfl
    | ⟨1, _⟩ => show 0 + 1 * l.val = l.val; omega
  rw [h, V_scale]
  exact shapeCast_a_1a_apply (m ((c : Thread nD τ).loc main_arg1)) _ 0 l

theorem bOf_apply (c : Dev nD) (l : Fin 512) : bOf m c (ix2 0 l) = m ((c : Thread nD τ).loc main_arg2) (ix1 l) := by
  have h : bOf m c (ix2 0 l) = V m c main_v2 (ix2 0 l) := by
    unfold bOf iblk
    refine congrArg (V m c main_v2) (funext fun a => Fin.ext ?_)
    match a with
    | ⟨0, _⟩ => rfl
    | ⟨1, _⟩ => show 0 + 1 * l.val = l.val; omega
  rw [h, V_offset]
  exact shapeCast_a_1a_apply (m ((c : Thread nD τ).loc main_arg2)) _ 0 l

theorem slot_apply (st : Dev nD → S16x128.Idx → EReal) (c : Dev nD) (n : ℕ) (u : Fin 1) (ρ : Fin 16) (l : Fin 128) :
    slotVec (F := Ideal) st c n (ix3 u ρ l) = st (back c n) (ix2 ρ l) := by
  refine congrArg (st (back c n)) (funext fun a => Fin.ext ?_)
  match a with
  | ⟨0, _⟩ => rfl
  | ⟨1, _⟩ => rfl

/-- The result of device `c`, element by element. -/
theorem resOf_apply (c : Dev nD) (r : Fin 1024) (l : Fin 512) :
    resOf m c (ix2 r l)
      = fromSums (∑ d, ∑ j : Fin 512, xOf m d (ix2 r j)) (∑ d, ∑ j : Fin 512, xOf m d (ix2 r j) * xOf m d (ix2 r j))
          (xOf m c (ix2 r l)) (m ((c : Thread nD τ).loc main_arg1) (ix1 l)) (m ((c : Thread nD τ).loc main_arg2) (ix1 l)) := by
  obtain ⟨k, i, hr⟩ : ∃ (k : Fin 4) (i : Fin 256), r.val = 256 * k.val + i.val :=
    ⟨⟨r.val / 256, by omega⟩, ⟨r.val % 256, by omega⟩, by show r.val = 256 * (r.val / 256) + r.val % 256; omega⟩
  have hi : (ix2 r l : S1024x512.Idx) = rowIdx k.val k.isLt (ix2 i l) := funext fun b => Fin.ext (by
    match b with
    | ⟨0, _⟩ => exact hr
    | ⟨1, _⟩ => rfl)
  have hx : blk (xOf m c) k (ix2 i l) = xOf m c (ix2 r l) := blk_apply _ k i l r hr
  have hs : ∑ n : Fin 8, slotVec (F := Ideal) (stOf m) c n.val (ix3 0 ⟨2 * k.val + i.val / 128, by omega⟩ ⟨i.val % 128, Nat.mod_lt _ (by omega)⟩)
      = ∑ d, ∑ j : Fin 512, xOf m d (ix2 r j) := by
    refine Eq.trans ?_ (sum_back c _)
    exact Finset.sum_congr rfl fun n _ => (slot_apply (stOf m) c n.val _ _ _).trans (stats_sums (xOf m (back c n.val)) k i r hr)
  have hq : ∑ n : Fin 8, slotVec (F := Ideal) (stOf m) c n.val (ix3 0 ⟨8 + 2 * k.val + i.val / 128, by omega⟩ ⟨i.val % 128, Nat.mod_lt _ (by omega)⟩)
      = ∑ d, ∑ j : Fin 512, xOf m d (ix2 r j) * xOf m d (ix2 r j) := by
    refine Eq.trans ?_ (sum_back c _)
    exact Finset.sum_congr rfl fun n _ => (slot_apply (stOf m) c n.val _ _ _).trans (stats_squares (xOf m (back c n.val)) k i r hr)
  have h : resOf m c (rowIdx k.val k.isLt (ix2 i l)) = resBlock (stOf m) c (xOf m c) (gOf m c) (bOf m c) k (ix2 i l) :=
    outOf_row (stOf m) c (xOf m c) (gOf m c) (bOf m c) k.val k.isLt (ix2 i l)
  rw [← gOf_apply m c l, ← bOf_apply m c l, ← hs, ← hq, ← hx, hi, h]
  exact blockOf_apply _ _ _ _ k i l

end Cert.KernelIdeal.Proto
-- ==== Proof.RefValue.lean ====
module

public import proofs.«01_k».proof.Proof.Gen.ReferenceIdeal.Read
public import proofs.«01_k».proof.Proof.Norm
public import Idealize.ShloMosaic.Lib.ValueIdx

/-!
# The reference's result at an index

Element `(r, j)` of the reference's result is `fromRow` of row `r` at its own element, scale and offset.
-/

@[expose] public section

noncomputable section

open Idealize.ShloMosaic Idealize.ShloMosaic.ValueIdx

namespace Cert.ReferenceIdeal.Read

open Cert.ReferenceIdeal Cert.ReferenceIdeal.Gen Cert.Norm

variable (x : S1024x4096.Idx → EReal) (g b : S4096.Idx → EReal) (r : Fin 1024) (j : Fin 4096)

/-- Row `r` of the whole array. -/
abbrev rowOf (k : Fin 4096) : EReal := x (ix2 r k)

theorem pair_eq (i : S1024x4096.Idx) (h0 : (i 0).val = r.val) (h1 : (i 1).val = j.val) : i = ix2 r j :=
  funext fun a => Fin.ext (by match a with | ⟨0, _⟩ => exact h0 | ⟨1, _⟩ => exact h1)

theorem single_eq (i : S4096.Idx) (h : (i 0).val = j.val) : i = ix1 j :=
  funext fun a => Fin.ext (by match a with | ⟨0, _⟩ => exact h)

/-- The mean the result is centred by. -/
theorem mean_apply (u : Fin 1) : val_main_v3 (F := Ideal) x (ix2 r u) = mean (rowOf x r) := by
  rw [val_main_v3_apply, val_main_v1_apply, val_main_v0_apply, val_main_v2_apply, val_main_cst_0_apply, val_main_cst_apply]
  show Ideal.div (Ideal.ofBits .f32 0x00000000#32 + _) len = _
  rw [zero_lit, zero_add, mean]
  exact congrArg (Ideal.div · len) (Finset.sum_congr rfl fun k _ => congrArg x (pair_eq r k _ rfl rfl))

/-- The same mean, inside the variance. -/
theorem var_mean_apply (u : Fin 1) : val_main_call0_v3 (F := Ideal) x (ix2 r u) = mean (rowOf x r) := by
  rw [val_main_call0_v3_apply, val_main_call0_v1_apply, val_main_call0_v0_apply, val_main_call0_v2_apply, val_main_call0_cst_0_apply,
    val_main_call0_cst_apply]
  show Ideal.div (Ideal.ofBits .f32 0x00000000#32 + _) len = _
  rw [zero_lit, zero_add, mean]
  exact congrArg (Ideal.div · len) (Finset.sum_congr rfl fun k _ => congrArg x (pair_eq r k _ rfl rfl))

/-- The row length less no degrees of freedom. -/
theorem dof_apply (i : S_.Idx) : val_main_call0_v8 (F := Ideal) i = len := by
  rw [val_main_call0_v8_apply, val_main_call0_cst_1_apply, val_main_call0_v7_apply]
  show len - (((0#32 : BitVec 32).toInt : ℝ) : EReal) = len
  simp

theorem dev_apply (k : Fin 4096) : val_main_call0_v5 (F := Ideal) x (ix2 r k) = rowOf x r k - mean (rowOf x r) := by
  have h : idx_main_call0_v4 (ix2 r k) = ix2 r (0 : Fin 1) := funext fun a => Fin.ext (by match a with | ⟨0, _⟩ => rfl | ⟨1, _⟩ => rfl)
  rw [val_main_call0_v5_apply, val_main_call0_v4_apply, h, var_mean_apply]
  rfl

/-- The variance before the test on the row length. -/
theorem var_apply (u : Fin 1) : val_main_call0_v12 (F := Ideal) x (ix2 r u) = var (rowOf x r) := by
  rw [val_main_call0_v12_apply, val_main_call0_v10_apply, val_main_call0_v9_apply, val_main_call0_v11_apply, dof_apply, val_main_call0_cst_2_apply]
  show Ideal.div (Ideal.ofBits .f32 0x00000000#32 + _) len = _
  rw [zero_lit, zero_add, var]
  refine congrArg (Ideal.div · len) (Finset.sum_congr rfl fun k _ => ?_)
  rw [pair_eq r k (idx_main_call0_v9 _ k) rfl rfl, val_main_call0_v6_apply, dev_apply]
  rfl

/-- The row length is positive, so the test passes. -/
theorem test_apply (i : S_.Idx) : val_main_call0_v13 (F := Ideal) i = 1#1 := by
  rw [val_main_call0_v13_apply, dof_apply, val_main_call0_cst_3_apply]
  show BitVec.ofBool (decide (Ideal.ofBits .f32 0x00000000#32 < len)) = 1#1
  rw [zero_lit, len, len_lit, decide_eq_true (by exact_mod_cast (by norm_num : (0 : ℝ) < 4096))]
  rfl

theorem select_var_apply (u : Fin 1) : val_main_v4 (F := Ideal) x (ix2 r u) = var (rowOf x r) := by
  have ht : broadcastInDim S1024x1 ![] bcast_S_S1024x1 (val_main_call0_v13 (F := Ideal)) (ix2 r u) = 1#1 := by
    rw [show broadcastInDim S1024x1 ![] bcast_S_S1024x1 (val_main_call0_v13 (F := Ideal)) (ix2 r u)
      = val_main_call0_v13 (F := Ideal) _ from rfl]
    exact test_apply _
  unfold val_main_v4
  rw [select_apply, ht, var_apply]
  rfl

theorem centred_apply : val_main_v6 (F := Ideal) x (ix2 r j) = x (ix2 r j) - mean (rowOf x r) := by
  have h : idx_main_v5 (ix2 r j) = ix2 r (0 : Fin 1) := funext fun a => Fin.ext (by match a with | ⟨0, _⟩ => rfl | ⟨1, _⟩ => rfl)
  rw [val_main_v6_apply, val_main_v5_apply, h, mean_apply]
  rfl

theorem root_apply : val_main_v13 (F := Ideal) x (ix2 r j) = Ideal.sqrt (var (rowOf x r) + eps) := by
  have h : idx_main_v13 (ix2 r j) = ix2 r (0 : Fin 1) := funext fun a => Fin.ext (by match a with | ⟨0, _⟩ => rfl | ⟨1, _⟩ => rfl)
  rw [val_main_v13_apply, h, val_main_v12_apply, val_main_v11_apply, select_var_apply, val_main_v10_apply, val_main_cst_1_apply]
  rfl

theorem scale_apply : val_main_v8 (F := Ideal) g (ix2 r j) = g (ix1 j) := by
  rw [val_main_v8_apply, val_main_v7_apply, single_eq j (idx_main_v7 _) rfl]

theorem offset_apply : val_main_v16 (F := Ideal) b (ix2 r j) = b (ix1 j) := by
  rw [val_main_v16_apply, val_main_v15_apply, single_eq j (idx_main_v15 _) rfl]

theorem result_apply : val_main_v17 (F := Ideal) x g b (ix2 r j) = fromRow (rowOf x r) (x (ix2 r j)) (g (ix1 j)) (b (ix1 j)) := by
  rw [val_main_v17_apply, val_main_v14_apply, val_main_v9_apply, scale_apply, centred_apply, root_apply, offset_apply]
  rfl

end Cert.ReferenceIdeal.Read
-- ==== Proof.Bridge.lean ====
module

public import proofs.«01_k».proof.Defs
public import proofs.«01_k».proof.Proof.KernelValue
public import proofs.«01_k».proof.Proof.RefValue

/-!
# The two results are one

Device `c` holds columns `512 c` to `512 c + 511` of the whole array, so the sum over the devices of the sums over their
columns is the sum over the row, and each device's result is its block of the reference's.
-/

@[expose] public section

noncomputable section

open Idealize.ShloMosaic Idealize.ShloMosaic.ValueIdx Idealize.ShloMosaic.TcCoe Idealize.SL.Sem

namespace Cert.Bridge

open Cert.Norm

/-- Column `l` of device `c` in the whole array. -/
def col (c : Fin 8) (l : Fin 512) : Fin 4096 := ⟨c.val * 512 + l.val, by omega⟩

/-- Every column of the whole array is a column of one device. -/
theorem exists_col (k : Fin 4096) : ∃ c l, k = col c l :=
  ⟨⟨k.val / 512, by omega⟩, ⟨k.val % 512, by omega⟩, Fin.ext (by show k.val = k.val / 512 * 512 + k.val % 512; omega)⟩

/-- A sum over a row is the sum over the devices of the sums over their columns. -/
theorem sum_cols (f : Fin 4096 → EReal) : ∑ c : Fin 8, ∑ l : Fin 512, f (col c l) = ∑ k, f k := by
  rw [← Fintype.sum_prod_type']
  refine Fintype.sum_equiv (finProdFinEquiv (m := 8) (n := 512)) _ _ fun p => congrArg f (Fin.ext ?_)
  show p.1.val * 512 + p.2.val = p.2.val + 512 * p.1.val
  omega

theorem block_mat {α : Type} (c : Fin 8) (v : (⟨2, ![1024, 4096]⟩ : Shape).Idx → α) (r : Fin 1024) (l : Fin 512) :
    Layout.block ⟨2, ![1024, 512]⟩ ⟨2, ![1024, 4096]⟩ 1 8 c v (by decide) (ix2 r l) = v (ix2 r (col c l)) := by
  refine congrArg v (funext fun a => Fin.ext ?_)
  match a with
  | ⟨0, _⟩ => rfl
  | ⟨1, _⟩ => rfl

theorem block_row {α : Type} (c : Fin 8) (v : (⟨1, ![4096]⟩ : Shape).Idx → α) (l : Fin 512) :
    Layout.block ⟨1, ![512]⟩ ⟨1, ![4096]⟩ 0 8 c v (by decide) (ix1 l) = v (ix1 (col c l)) := by
  refine congrArg v (funext fun a => Fin.ext ?_)
  match a with
  | ⟨0, _⟩ => rfl

theorem preK : Cert.Pre_finite_x_KernelIdeal.Facts := ⟨by decide⟩
theorem preR : Cert.Pre_finite_x_ReferenceIdeal.Facts := ⟨by decide⟩

/-- What the precondition says of one element. -/
theorem finite_of_pre [Cert.Pre_finite_x_KernelIdeal.Facts] (x : FVec Ideal ⟨2, ![1024, 512]⟩ .f32) (g b : FVec Ideal ⟨1, ![512]⟩ .f32)
    (h : Cert.Pre_finite_x_KernelIdeal.fn (F := Ideal) x g b = fun _ => 1#1) (r : Fin 1024) (l : Fin 512) :
    x (ix2 r l) ≠ ⊤ ∧ x (ix2 r l) ≠ ⊥ := by
  have h1 := congrFun h (ix2 r l)
  have h2 : BitVec.ofBool (decide (x (ix2 r l) < Ideal.ofBits .f32 0x7F800000#32))
      &&& BitVec.ofBool (decide (Ideal.ofBits .f32 0xFF800000#32 < x (ix2 r l))) = 1#1 := h1
  rw [top_lit, bot_lit] at h2
  by_cases ht : x (ix2 r l) < ⊤
  · by_cases hb : ⊥ < x (ix2 r l)
    · exact ⟨ht.ne, hb.ne'⟩
    · simp [ht, hb] at h2
  · simp [ht] at h2

section

open Cert.KernelIdeal Cert.KernelIdeal.Gen Cert.KernelIdeal.Proto

variable (m : (ℓ : Loc nD τ sig) → Buf (Elt Ideal) ℓ)
  (X : (⟨2, ![1024, 4096]⟩ : Shape).Idx → EReal) (G B : (⟨1, ![4096]⟩ : Shape).Idx → EReal)
  (hx : ∀ (c : Dev nD) r l, m ((c : Thread nD τ).loc main_arg0) (ix2 r l) = X (ix2 r (col c l)))
  (hg : ∀ (c : Dev nD) l, m ((c : Thread nD τ).loc main_arg1) (ix1 l) = G (ix1 (col c l)))
  (hb : ∀ (c : Dev nD) l, m ((c : Thread nD τ).loc main_arg2) (ix1 l) = B (ix1 (col c l)))
  (hfin : ∀ r k, X (ix2 r k) ≠ ⊤ ∧ X (ix2 r k) ≠ ⊥)
include hx hg hb hfin

/-- One element of one device's result is the reference's element there. -/
theorem element (c : Dev nD) (r : Fin 1024) (l : Fin 512) :
    resOf m c (ix2 r l) = Cert.ReferenceIdeal.Read.val_main_v17 (F := Ideal) X G B (ix2 r (col c l)) := by
  have hx' : ∀ d j, xOf m d (ix2 r j) = X (ix2 r (col d j)) := fun d j => hx d r j
  rw [resOf_apply, Cert.ReferenceIdeal.Read.result_apply, hg, hb]
  simp only [hx']
  rw [sum_cols (fun k => X (ix2 r k)), sum_cols (fun k => X (ix2 r k) * X (ix2 r k))]
  exact fromSums_eq_fromRow (fun k => X (ix2 r k)) (fun k => (X (ix2 r k)).toReal)
    (fun k => (EReal.coe_toReal (hfin r k).1 (hfin r k).2).symm) _ _ _

/-- Each device's result is its block of the reference's. -/
theorem result (c : Dev nD) :
    resOf m c = Layout.block ⟨2, ![1024, 512]⟩ ⟨2, ![1024, 4096]⟩ 1 8 c (Cert.ReferenceIdeal.Read.val_main_v17 (F := Ideal) X G B) (by decide) := by
  funext i
  obtain ⟨r, l, rfl⟩ : ∃ (r : Fin 1024) (l : Fin 512), i = ix2 r l := ⟨i 0, i 1, eq_ix2 i⟩
  exact (element m X G B hx hg hb hfin c r l).trans (block_mat c _ r l).symm

end

instance : Cert.Pre_finite_x_KernelIdeal.Facts := preK

/-- On a finite `x` the kernel leaves on each device its block of what the reference computes from the whole arrays. -/
theorem algebraic : Cert.algebraic_KernelIdeal_ReferenceIdeal_pre_finite_x_KernelIdeal := by
  intro m ρ m' ρ' hpre hargs
  have hx : ∀ (c : Fin 8) (r : Fin 1024) (l : Fin 512), _ = _ := fun c r l => (congrFun (hargs c).1 (ix2 r l)).trans (block_mat c _ r l)
  have hg : ∀ (c : Fin 8) (l : Fin 512), _ = _ := fun c l => (congrFun (hargs c).2.1 (ix1 l)).trans (block_row c _ l)
  have hb : ∀ (c : Fin 8) (l : Fin 512), _ = _ := fun c l => (congrFun (hargs c).2.2 (ix1 l)).trans (block_row c _ l)
  refine ⟨Cert.ReferenceIdeal.Read.val_main_v17 (F := Ideal) _ _ _,
    (θ_run Cert.KernelIdeal.defs _ _).mono
      (fun _ h c => ⟨(h.1 c).2.2.2.trans (result m _ _ _ hx hg hb (fun r k => ?_) c), (h.1 c).1, (h.1 c).2.1, (h.1 c).2.2.1⟩)
      (Cert.KernelIdeal.Proto.run_main (F := Ideal) m ρ),
    (θ_run Cert.ReferenceIdeal.defs _ _).mono
      (fun _ h => ⟨(h 0).1.trans (Cert.ReferenceIdeal.Read.val_main_v17_eq _ _ _), (h 0).2⟩)
      (Cert.ReferenceIdeal.Value.run (F := Ideal) m' ρ')⟩
  obtain ⟨d, j, rfl⟩ := exists_col k
  rw [← hx d r j]
  exact finite_of_pre _ _ _ (hpre d) r j

end Cert.Bridge
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Bridge
public import Idealize.ShloMosaic.Adequacy
public import Idealize.ShloMosaic.Init

@[expose] public section

noncomputable section

namespace Cert.Proof

open Idealize.ShloMosaic Idealize.SL.Sem Cert.Kernel

section
variable {F : FTy → Type} [FloatOps F]

/-- The two kernel programs are one text, as no operation was rewritten: their body tables are equal. -/
theorem bodies_eq : Cert.Kernel.defs₀ (F := F) = Cert.KernelIdeal.defs₀ (F := F) := by
  funext p ℓ a
  match p, ℓ, a with
  | .tc, 0, _ => rfl
  | .scScalar _, _, _ => rfl
  | .scVector _ _, _, _ => rfl

end

/-- The kernel's frame at the machine's floats: the run of `Proof/Run.lean`, which holds for any float values, read
    at bit patterns. -/
theorem frame_kernel : Cert.quiescent_Kernel := fun m ρ _ => by
  have h := (θ_run Cert.KernelIdeal.defs _ _).mono
    (fun _ h => (⟨fun c => ⟨(h.1 c).1, (h.1 c).2.1, (h.1 c).2.2.1⟩, h.2⟩ :
      (∀ c : Dev Cert.KernelIdeal.nD, _ ∧ _ ∧ _) ∧ _))
    (Cert.KernelIdeal.Proto.run_main (F := Bits) m ρ)
  unfold Cert.KernelIdeal.defs at h
  rw [← bodies_eq] at h
  exact h

/-- The kernel's frame at the extended reals. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1⟩, h.2⟩)
    (Cert.KernelIdeal.Proto.run_main (F := Ideal) m ρ)

/-- The reference's frame: a straight line of host operations that writes no argument, on a signature without
    semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Bridge.preK, Cert.Bridge.preR, frame_kernel, frame_kernelIdeal, fun m ρ _ => frame_kernelIdeal m ρ trivial,
  frame_referenceIdeal, fun m ρ _ => frame_referenceIdeal m ρ trivial, trivial, Cert.Bridge.algebraic⟩

end Cert.Proof

end
